-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S256x512 : Shape := ⟨2, ![256, 512]⟩
abbrev S24x64x512 : Shape := ⟨3, ![24, 64, 512]⟩
abbrev S24 : Shape := ⟨1, ![24]⟩
abbrev S_ : Shape := ⟨0, ![]⟩
abbrev S1 : Shape := ⟨1, ![1]⟩
abbrev S1x64x512 : Shape := ⟨3, ![1, 64, 512]⟩
abbrev S64x512 : Shape := ⟨2, ![64, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S256x512, .f32⟩
  | .local _ .vmem, ⟨4, _⟩ => ⟨S24x64x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_13 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c256_i32 : BitVec 32 := 256#32
  let v18 : BitVec 32 := Scalar.muli v17 c256_i32
  let v19 : BitVec 32 := Scalar.addi v18 c0_i32_13
  let c0_i32_25 : BitVec 32 := 0#32
  ![v19.toNat, 0]
def k0_dev3 (d0 : Dev nD) : Nat :=
  let c0_i32_21 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_20 : BitVec 32 := 2#32
  let v24 : BitVec 32 := Scalar.muli v6 c2_i32_20
  let v25 : BitVec 32 := Scalar.addi c0_i32_21 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v26 : BitVec 32 := Scalar.muli v5 c1_i32_22
  let v27 : BitVec 32 := Scalar.addi v25 v26
  v27.toNat
def k0_off2 (d0 : Dev nD) (c0_i32_16 : BitVec 32) : Fin 2 → Nat :=
  let c512_i32 : BitVec 32 := 512#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_14 v5
  let c256_i32_15 : BitVec 32 := 256#32
  let v21 : BitVec 32 := Scalar.muli v20 c256_i32_15
  let v22 : BitVec 32 := Scalar.addi c512_i32 v21
  let v23 : BitVec 32 := Scalar.addi v22 c0_i32_16
  let c0_i32_33 : BitVec 32 := 0#32
  ![v23.toNat, 0]
def k0_dev4 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v35 : BitVec 32 := Scalar.muli v2 c2_i32_28
  let v36 : BitVec 32 := Scalar.addi c0_i32_29 v35
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_30 : BitVec 32 := 1#32
  let v37 : BitVec 32 := Scalar.muli v7 c1_i32_30
  let v38 : BitVec 32 := Scalar.addi v36 v37
  v38.toNat
def k0_dev5 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v53 : BitVec 32 := Scalar.muli v6 c2_i32_43
  let v54 : BitVec 32 := Scalar.addi c0_i32_44 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v55 : BitVec 32 := Scalar.muli v5 c1_i32_45
  let v56 : BitVec 32 := Scalar.addi v54 v55
  v56.toNat
def k0_dev6 (d0 : Dev nD) : Nat :=
  let c0_i32_52 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_51 : BitVec 32 := 2#32
  let v64 : BitVec 32 := Scalar.muli v2 c2_i32_51
  let v65 : BitVec 32 := Scalar.addi c0_i32_52 v64
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_53 : BitVec 32 := 1#32
  let v66 : BitVec 32 := Scalar.muli v7 c1_i32_53
  let v67 : BitVec 32 := Scalar.addi v65 v66
  v67.toNat
def k0_dev7 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v82 : BitVec 32 := Scalar.muli v6 c2_i32_66
  let v83 : BitVec 32 := Scalar.addi c0_i32_67 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v84 : BitVec 32 := Scalar.muli v5 c1_i32_68
  let v85 : BitVec 32 := Scalar.addi v83 v84
  v85.toNat
def k0_dev8 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v93 : BitVec 32 := Scalar.muli v2 c2_i32_74
  let v94 : BitVec 32 := Scalar.addi c0_i32_75 v93
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_76 : BitVec 32 := 1#32
  let v95 : BitVec 32 := Scalar.muli v7 c1_i32_76
  let v96 : BitVec 32 := Scalar.addi v94 v95
  v96.toNat
def k0_dev9 (d0 : Dev nD) : Nat :=
  let c0_i32_89 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_88 : BitVec 32 := 2#32
  let v111 : BitVec 32 := Scalar.muli v6 c2_i32_88
  let v112 : BitVec 32 := Scalar.addi c0_i32_89 v111
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v113 : BitVec 32 := Scalar.muli v5 c1_i32_90
  let v114 : BitVec 32 := Scalar.addi v112 v113
  v114.toNat
def k0_dev10 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v122 : BitVec 32 := Scalar.muli v2 c2_i32_96
  let v123 : BitVec 32 := Scalar.addi c0_i32_97 v122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_98 : BitVec 32 := 1#32
  let v124 : BitVec 32 := Scalar.muli v7 c1_i32_98
  let v125 : BitVec 32 := Scalar.addi v123 v124
  v125.toNat
def k0_off3 (d0 : Dev nD) (c0_i32_119 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_118 : BitVec 32 := 256#32
  let v147 : BitVec 32 := Scalar.muli v2 c256_i32_118
  let v148 : BitVec 32 := Scalar.addi v147 c0_i32_119
  let v149 : Index := Scalar.indexCast v148
  let c0 : Index := 0#32
  ![v149.toNat, 0]
def k0_dev11 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v158 : BitVec 32 := Scalar.muli v2 c2_i32_127
  let v159 : BitVec 32 := Scalar.addi c0_i32_128 v158
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_129 : BitVec 32 := 1#32
  let v160 : BitVec 32 := Scalar.muli v7 c1_i32_129
  let v161 : BitVec 32 := Scalar.addi v159 v160
  v161.toNat
def k0_off4 (d0 : Dev nD) (c0_i32_152 : BitVec 32) : Fin 2 → Nat :=
  let c512_i32_151 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_150 : BitVec 32 := 256#32
  let v183 : BitVec 32 := Scalar.muli v5 c256_i32_150
  let v184 : BitVec 32 := Scalar.addi c512_i32_151 v183
  let v185 : BitVec 32 := Scalar.addi v184 c0_i32_152
  let v186 : Index := Scalar.indexCast v185
  let c0_153 : Index := 0#32
  ![v186.toNat, 0]
def k0_dev12 (d0 : Dev nD) : Nat :=
  let c0_i32_161 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_160 : BitVec 32 := 2#32
  let v195 : BitVec 32 := Scalar.muli v6 c2_i32_160
  let v196 : BitVec 32 := Scalar.addi c0_i32_161 v195
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_162 : BitVec 32 := 1#32
  let v197 : BitVec 32 := Scalar.muli v5 c1_i32_162
  let v198 : BitVec 32 := Scalar.addi v196 v197
  v198.toNat
def k0_dev13 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v231 : BitVec 32 := Scalar.muli v2 c2_i32_191
  let v232 : BitVec 32 := Scalar.addi c0_i32_192 v231
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_193 : BitVec 32 := 1#32
  let v233 : BitVec 32 := Scalar.muli v7 c1_i32_193
  let v234 : BitVec 32 := Scalar.addi v232 v233
  v234.toNat
def k0_dev14 (d0 : Dev nD) : Nat :=
  let c0_i32_225 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_224 : BitVec 32 := 2#32
  let v268 : BitVec 32 := Scalar.muli v6 c2_i32_224
  let v269 : BitVec 32 := Scalar.addi c0_i32_225 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_226 : BitVec 32 := 1#32
  let v270 : BitVec 32 := Scalar.muli v5 c1_i32_226
  let v271 : BitVec 32 := Scalar.addi v269 v270
  v271.toNat
def k0_dev15 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v304 : BitVec 32 := Scalar.muli v2 c2_i32_255
  let v305 : BitVec 32 := Scalar.addi c0_i32_256 v304
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_257 : BitVec 32 := 1#32
  let v306 : BitVec 32 := Scalar.muli v7 c1_i32_257
  let v307 : BitVec 32 := Scalar.addi v305 v306
  v307.toNat
def k0_dev16 (d0 : Dev nD) : Nat :=
  let c0_i32_289 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_288 : BitVec 32 := 2#32
  let v341 : BitVec 32 := Scalar.muli v6 c2_i32_288
  let v342 : BitVec 32 := Scalar.addi c0_i32_289 v341
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_290 : BitVec 32 := 1#32
  let v343 : BitVec 32 := Scalar.muli v5 c1_i32_290
  let v344 : BitVec 32 := Scalar.addi v342 v343
  v344.toNat
def k0_dev17 (d0 : Dev nD) : Nat :=
  let c0_i32_320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_319 : BitVec 32 := 2#32
  let v377 : BitVec 32 := Scalar.muli v2 c2_i32_319
  let v378 : BitVec 32 := Scalar.addi c0_i32_320 v377
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_321 : BitVec 32 := 1#32
  let v379 : BitVec 32 := Scalar.muli v7 c1_i32_321
  let v380 : BitVec 32 := Scalar.addi v378 v379
  v380.toNat
def k0_dev18 (d0 : Dev nD) : Nat :=
  let c0_i32_353 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_352 : BitVec 32 := 2#32
  let v414 : BitVec 32 := Scalar.muli v6 c2_i32_352
  let v415 : BitVec 32 := Scalar.addi c0_i32_353 v414
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v416 : BitVec 32 := Scalar.muli v5 c1_i32_354
  let v417 : BitVec 32 := Scalar.addi v415 v416
  v417.toNat
def k0_dev19 (d0 : Dev nD) : Nat :=
  let c0_i32_386 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_385 : BitVec 32 := 2#32
  let v446 : BitVec 32 := Scalar.muli v6 c2_i32_385
  let v447 : BitVec 32 := Scalar.addi c0_i32_386 v446
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_387 : BitVec 32 := 1#32
  let v448 : BitVec 32 := Scalar.muli v5 c1_i32_387
  let v449 : BitVec 32 := Scalar.addi v447 v448
  v449.toNat
def k0_dev20 (d0 : Dev nD) : Nat :=
  let c0_i32_419 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_418 : BitVec 32 := 2#32
  let v478 : BitVec 32 := Scalar.muli v2 c2_i32_418
  let v479 : BitVec 32 := Scalar.addi c0_i32_419 v478
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_420 : BitVec 32 := 1#32
  let v480 : BitVec 32 := Scalar.muli v7 c1_i32_420
  let v481 : BitVec 32 := Scalar.addi v479 v480
  v481.toNat
def k0_dev21 (d0 : Dev nD) : Nat :=
  let c0_i32_452 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_451 : BitVec 32 := 2#32
  let v510 : BitVec 32 := Scalar.muli v6 c2_i32_451
  let v511 : BitVec 32 := Scalar.addi c0_i32_452 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_453 : BitVec 32 := 1#32
  let v512 : BitVec 32 := Scalar.muli v5 c1_i32_453
  let v513 : BitVec 32 := Scalar.addi v511 v512
  v513.toNat
def k0_dev22 (d0 : Dev nD) : Nat :=
  let c0_i32_485 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_484 : BitVec 32 := 2#32
  let v542 : BitVec 32 := Scalar.muli v2 c2_i32_484
  let v543 : BitVec 32 := Scalar.addi c0_i32_485 v542
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_486 : BitVec 32 := 1#32
  let v544 : BitVec 32 := Scalar.muli v7 c1_i32_486
  let v545 : BitVec 32 := Scalar.addi v543 v544
  v545.toNat
def k0_dev23 (d0 : Dev nD) : Nat :=
  let c0_i32_518 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_517 : BitVec 32 := 2#32
  let v574 : BitVec 32 := Scalar.muli v6 c2_i32_517
  let v575 : BitVec 32 := Scalar.addi c0_i32_518 v574
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_519 : BitVec 32 := 1#32
  let v576 : BitVec 32 := Scalar.muli v5 c1_i32_519
  let v577 : BitVec 32 := Scalar.addi v575 v576
  v577.toNat
def k0_dev24 (d0 : Dev nD) : Nat :=
  let c0_i32_551 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_550 : BitVec 32 := 2#32
  let v606 : BitVec 32 := Scalar.muli v2 c2_i32_550
  let v607 : BitVec 32 := Scalar.addi c0_i32_551 v606
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_552 : BitVec 32 := 1#32
  let v608 : BitVec 32 := Scalar.muli v7 c1_i32_552
  let v609 : BitVec 32 := Scalar.addi v607 v608
  v609.toNat
def k0_dev25 (d0 : Dev nD) : Nat :=
  let c0_i32_584 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_583 : BitVec 32 := 2#32
  let v638 : BitVec 32 := Scalar.muli v6 c2_i32_583
  let v639 : BitVec 32 := Scalar.addi c0_i32_584 v638
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_585 : BitVec 32 := 1#32
  let v640 : BitVec 32 := Scalar.muli v5 c1_i32_585
  let v641 : BitVec 32 := Scalar.addi v639 v640
  v641.toNat
def k0_dev26 (d0 : Dev nD) : Nat :=
  let c0_i32_617 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_616 : BitVec 32 := 2#32
  let v670 : BitVec 32 := Scalar.muli v2 c2_i32_616
  let v671 : BitVec 32 := Scalar.addi c0_i32_617 v670
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_618 : BitVec 32 := 1#32
  let v672 : BitVec 32 := Scalar.muli v7 c1_i32_618
  let v673 : BitVec 32 := Scalar.addi v671 v672
  v673.toNat
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_625 : BitVec 32 := 256#32
  let v682 : BitVec 32 := Scalar.muli v2 c256_i32_625
  let v683 : Index := Scalar.indexCast v682
  let c0_626 : Index := 0#32
  ![v683.toNat, 0]
def k0_off6 (d0 : Dev nD) : Fin 2 → Nat :=
  let c512_i32_630 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_629 : BitVec 32 := 256#32
  let v686 : BitVec 32 := Scalar.muli v5 c256_i32_629
  let v687 : BitVec 32 := Scalar.addi c512_i32_630 v686
  let v688 : Index := Scalar.indexCast v687
  let c0_631 : Index := 0#32
  ![v688.toNat, 0]
def k0_off7 (d0 : Dev nD) (c0_i32_654 : BitVec 32) : Fin 2 → Nat :=
  let c1_i32_652 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v706 : BitVec 32 := Scalar.subi c1_i32_652 v2
  let c256_i32_653 : BitVec 32 := 256#32
  let v707 : BitVec 32 := Scalar.muli v706 c256_i32_653
  let v708 : BitVec 32 := Scalar.addi v707 c0_i32_654
  let v709 : Index := Scalar.indexCast v708
  let c0_655 : Index := 0#32
  ![v709.toNat, 0]
def k0_off8 (d0 : Dev nD) (c0_i32_679 : BitVec 32) : Fin 2 → Nat :=
  let c512_i32_678 : BitVec 32 := 512#32
  let c1_i32_676 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v727 : BitVec 32 := Scalar.subi c1_i32_676 v5
  let c256_i32_677 : BitVec 32 := 256#32
  let v728 : BitVec 32 := Scalar.muli v727 c256_i32_677
  let v729 : BitVec 32 := Scalar.addi c512_i32_678 v728
  let v730 : BitVec 32 := Scalar.addi v729 c0_i32_679
  let v731 : Index := Scalar.indexCast v730
  let c0_680 : Index := 0#32
  ![v731.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2x1024x2x512 : Shape := ⟨4, ![2, 1024, 2, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x2x512, .f32⟩
  | .hbm, ⟨2, _⟩ => ⟨S_, .f32⟩
  | .hbm, ⟨3, _⟩ => ⟨S1024x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Proto.lean ====
/-
The protocol of the four-device sum: who sends which rows to whom, and what every semaphore's units hand over.

Device `c` stands at row `c / 2` and column `c % 2` of the two-by-two mesh. Its two neighbours are `xn c` (the other
row) and `yn c` (the other column). A device makes 24 transfers, one per SLOT `s = 8 * stage + 4 * pipe + k`, and
every transfer has its own send semaphore, its own receive semaphore and its own 64 rows of the receiver's
landing buffer. Slot `s` goes to `peer s c`, and the same slot is received from `peer s c`.

  stage 0: the rows of the input that the peer is to reduce;
  stage 1: the reduced rows of the two accumulators;
  stage 2: the rows reduced twice.

A device enters by signalling both neighbours' barrier semaphore, which hands each of them the slots it will write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Exec.Context

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch library's part and the rounds' part (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

set_option backward.proofsInPublic true in
/-- The device in the other mesh row. -/
def xn (c : Dev nD) : Dev nD := ⟨(c.val + 2) % 4, Nat.mod_lt _ (by decide)⟩
set_option backward.proofsInPublic true in
/-- The device in the other mesh column. -/
def yn (c : Dev nD) : Dev nD := ⟨(2 * (c.val / 2) + (c.val + 1) % 2) % 4, Nat.mod_lt _ (by decide)⟩

theorem xn_xn (c : Dev nD) : xn (xn c) = c := by revert c; decide
theorem yn_yn (c : Dev nD) : yn (yn c) = c := by revert c; decide
theorem xn_ne_yn (c : Dev nD) : xn c ≠ yn c := by revert c; decide

/-- The neighbour's number as the program computes it. -/
theorem xn_val (c : Dev nD) : (xn c).val = ((c.val % 2) + 2) - 2 * (c.val / 2) := by revert c; decide
theorem yn_val (c : Dev nD) : (yn c).val = (2 * (c.val / 2) + 1) - (c.val % 2) := by revert c; decide

abbrev Slot : Type := Fin 24

/-- Whether a slot's transfers run between the two mesh rows. -/
def acrossRows (s : Slot) : Bool := s.val / 4 = 0 ∨ s.val / 4 = 3 ∨ s.val / 4 = 4

/-- The device slot `s` of device `c` goes to, and comes from. -/
def peer (s : Slot) (c : Dev nD) : Dev nD := if acrossRows s then xn c else yn c

theorem peer_peer (s : Slot) (c : Dev nD) : peer s (peer s c) = c := by
  unfold peer; split
  · exact xn_xn c
  · exact yn_yn c

/-- The slots between mesh rows, and those between mesh columns. -/
def xSlots : Finset Slot := Finset.univ.filter fun s => acrossRows s = true
def ySlots : Finset Slot := Finset.univ.filter fun s => ¬ acrossRows s = true

/-! ## The memrefs and the cells -/

abbrev xM : Memref sig .tc .vmem S1024x512 .f32 := Memref.whole cc0_stg0_0
abbrev oM : Memref sig .tc .vmem S1024x512 .f32 := Memref.whole cc0_stg1_0
abbrev aM : Memref sig .tc .vmem S256x512 .f32 := Memref.whole cc0_scratch0
abbrev bM : Memref sig .tc .vmem S256x512 .f32 := Memref.whole cc0_scratch1
abbrev lM : Memref sig .tc .vmem S24x64x512 .f32 := Memref.whole cc0_scratch2

theorem slot_inb (s : Slot) : ∀ a, (![s.val, 0, 0] : Fin 3 → ℕ) a + S1x64x512.size a ≤ S24x64x512.size a := by
  revert s; decide
theorem sem_inb (s : Slot) : ∀ a, (![s.val] : Fin 1 → ℕ) a + S1.size a ≤ S24.size a := by revert s; decide
theorem chunk_inb (k : Fin 4) : ∀ a, (![64 * k.val, 0] : Fin 2 → ℕ) a + S64x512.size a ≤ S256x512.size a := by
  revert k; decide

/-- The rectangle of a slot in the landing buffer, and the slot as a block of 64 rows. -/
abbrev slotR (s : Slot) : Rect S24x64x512 := Rect.unit (s := S24x64x512) ![s.val, 0, 0] S1x64x512.size (slot_inb s)
abbrev slotM (s : Slot) : Memref sig .tc .vmem S64x512 .f32 :=
  (lM.slice (slotR s) (fun _ => rfl)).squeeze S64x512 squeezes_S1x64x512_S64x512

/-- Chunk `k` of an accumulator. -/
abbrev chunkR (k : Fin 4) : Rect S256x512 := Rect.unit (s := S256x512) ![64 * k.val, 0] S64x512.size (chunk_inb k)
abbrev aSl (k : Fin 4) : Memref sig .tc .vmem S64x512 .f32 := aM.slice (chunkR k) (fun _ => rfl)
abbrev bSl (k : Fin 4) : Memref sig .tc .vmem S64x512 .f32 := bM.slice (chunkR k) (fun _ => rfl)

/-- The input rows sent to the neighbours: pipe A's (to `xn c`) and pipe B's (to `yn c`); and the rows kept. -/
abbrev sendAR (c : Dev nD) (k : Fin 4) : Rect S1024x512 :=
  Rect.unit (s := S1024x512) (k0_off1 c (BitVec.ofNat 32 (64 * k.val))) S64x512.size (k0_off1_inb c k)
abbrev sendBR (c : Dev nD) (k : Fin 4) : Rect S1024x512 :=
  Rect.unit (s := S1024x512) (k0_off2 c (BitVec.ofNat 32 (64 * k.val))) S64x512.size (k0_off2_inb c k)
abbrev keepAR (c : Dev nD) (k : Fin 4) : Rect S1024x512 :=
  Rect.unit (s := S1024x512) (k0_off3 c (BitVec.ofNat 32 (64 * k.val))) S64x512.size (k0_off3_inb c k)
abbrev keepBR (c : Dev nD) (k : Fin 4) : Rect S1024x512 :=
  Rect.unit (s := S1024x512) (k0_off4 c (BitVec.ofNat 32 (64 * k.val))) S64x512.size (k0_off4_inb c k)
abbrev xSl (r : Rect S1024x512) (h : ∀ a, r.stride a = 1) : Memref sig .tc .vmem r.shape .f32 := xM.slice r h

/-- Chunk number of a slot. -/
def chunkOf (s : Slot) : Fin 4 := ⟨s.val % 4, Nat.mod_lt _ (by decide)⟩

/-- Where slot `s` of device `c` is sent from. -/
def srcM (c : Dev nD) (s : Slot) : Memref sig .tc .vmem S64x512 .f32 :=
  match s.val / 4 with
  | 0 => xM.slice (sendAR c (chunkOf s)) (fun _ => rfl)
  | 1 => xM.slice (sendBR c (chunkOf s)) (fun _ => rfl)
  | 2 => aSl (chunkOf s)
  | 3 => bSl (chunkOf s)
  | 4 => aSl (chunkOf s)
  | _ => bSl (chunkOf s)

/-- The share of its source a transfer takes: half, except in the middle stage, where nobody reads meanwhile. -/
def srcShare (s : Slot) : PosShare TreeShare := if s.val / 8 = 1 then fullShare else fullShare.right

abbrev barS : Sem sig := (SemArray.scalar (sig.barrier 0 rfl) : Sems sig S_).sem
def sendSem (s : Slot) : DmaSem sig := ⟨2 + s.val, by have := s.isLt; show _ < 50; omega⟩
def recvSem (s : Slot) : DmaSem sig := ⟨26 + s.val, by have := s.isLt; show _ < 50; omega⟩

abbrev barCell (c : Dev nD) : GSem nD τ sig := ((c : Thread nD τ), .reg barS)
abbrev sendCell (c : Dev nD) (s : Slot) : GSem nD τ sig := ((c : Thread nD τ), .dma (sendSem s))
abbrev recvCell (c : Dev nD) (s : Slot) : GSem nD τ sig := ((c : Thread nD τ), .dma (recvSem s))

/-- The program's names of the semaphores. -/
theorem sendSem_eq (s : Slot) :
    ((cc0_scratch3.slice (Rect.unit (s := S24) ![s.val] S1.size (sem_inb s))).squeeze S_ squeezes_S1_S_).sem = sendSem s := by
  revert s; decide
theorem recvSem_eq (s : Slot) :
    ((cc0_scratch4.slice (Rect.unit (s := S24) ![s.val] S1.size (sem_inb s))).squeeze S_ squeezes_S1_S_).sem = recvSem s := by
  revert s; decide

/-- The units a transfer of 64 rows credits. -/
abbrev N : ℕ := (slotM 0).view.dmaCredit
theorem N_pos : 0 < N := View.dmaCredit_pos _ (by decide)

theorem slot_credit (s : Slot) : (slotM s).view.dmaCredit = N := rfl
theorem src_credit (c : Dev nD) (s : Slot) : (srcM c s).view.dmaCredit = N := by
  fin_cases s <;> rfl

/-! ## Contents, block by block

`X c` is device `c`'s own input block. -/

abbrev Blk : Type := Vec F S64x512 .f32
abbrev Inp : Type := Dev nD → (cc0_stg0_0 : Ref sig .tc).ty.Contents (Elt F)

section Contents
variable (X : Inp (F := F))

def sendA (c : Dev nD) (k : Fin 4) : Blk (F := F) := (xM.slice (sendAR c k) (fun _ => rfl)).view.read (Elt F) (X c)
def sendB (c : Dev nD) (k : Fin 4) : Blk (F := F) := (xM.slice (sendBR c k) (fun _ => rfl)).view.read (Elt F) (X c)
def keepA (c : Dev nD) (k : Fin 4) : Blk (F := F) := (xM.slice (keepAR c k) (fun _ => rfl)).view.read (Elt F) (X c)
def keepB (c : Dev nD) (k : Fin 4) : Blk (F := F) := (xM.slice (keepBR c k) (fun _ => rfl)).view.read (Elt F) (X c)

/-- The accumulators' chunks after the first and after the second reduction. -/
def red1A (c : Dev nD) (k : Fin 4) : Blk (F := F) := addf (keepA X c k) (sendA X (xn c) k)
def red1B (c : Dev nD) (k : Fin 4) : Blk (F := F) := addf (keepB X c k) (sendB X (yn c) k)
def red2A (c : Dev nD) (k : Fin 4) : Blk (F := F) := addf (red1A X c k) (red1A X (yn c) k)
def red2B (c : Dev nD) (k : Fin 4) : Blk (F := F) := addf (red1B X c k) (red1B X (xn c) k)

/-- What slot `s` of device `c` carries. -/
def sent (c : Dev nD) (s : Slot) : Blk (F := F) :=
  match s.val / 4 with
  | 0 => sendA X c (chunkOf s)
  | 1 => sendB X c (chunkOf s)
  | 2 => red1A X c (chunkOf s)
  | 3 => red1B X c (chunkOf s)
  | 4 => red2A X c (chunkOf s)
  | _ => red2B X c (chunkOf s)

/-- The source of slot `s`, at the share a transfer takes. -/
def srcPts (c : Dev nD) (s : Slot) : sProp 𝕄 :=
  (srcM c s).view.loc (c : Thread nD τ) ↦[(srcM c s).view.set]{srcShare s} (srcM c s).view.rep (sent X c s)

/-- Slot `s` of device `c`'s landing buffer, holding the block `v`. -/
def slotAt (c : Dev nD) (s : Slot) (v : Blk (F := F)) : sProp 𝕄 :=
  (slotM s).view.loc (c : Thread nD τ) ↦[(slotM s).view.set]{fullShare} (slotM s).view.rep v

/-- The same, holding anything. -/
def slotAny (c : Dev nD) (s : Slot) : sProp 𝕄 :=
  iprop(∃ f : Buf (Elt F) ((slotM s).view.loc (c : Thread nD τ)), (slotM s).view.loc (c : Thread nD τ) ↦[(slotM s).view.set]{fullShare} f)

/-- The same, holding what the peer sent. -/
def slotGot (c : Dev nD) (s : Slot) : sProp 𝕄 := slotAt c s (sent X (peer s c) s)

instance srcPts_storable (c : Dev nD) (s : Slot) : BI.Storable (upEmb : UEmb _ 𝕄) (srcPts X c s) := by unfold srcPts; infer_instance
instance slotAt_storable (c : Dev nD) (s : Slot) (v : Blk (F := F)) : BI.Storable (upEmb : UEmb _ 𝕄) (slotAt c s v) := by unfold slotAt; infer_instance
instance slotAny_storable (c : Dev nD) (s : Slot) : BI.Storable (upEmb : UEmb _ 𝕄) (slotAny (F := F) c s) := by unfold slotAny; infer_instance
instance slotGot_storable (c : Dev nD) (s : Slot) : BI.Storable (upEmb : UEmb _ 𝕄) (slotGot X c s) := by unfold slotGot; infer_instance

/-! ## The schedule -/

/-- What a semaphore is for. -/
inductive Role where
  | bar
  | snd (s : Slot)
  | rcv (s : Slot)
  | other

def role : SemLoc sig → Role
  | .reg _ => .bar
  | .dma d =>
    if h : 2 ≤ d.val ∧ d.val < 26 then .snd ⟨d.val - 2, by omega⟩
    else if h : 26 ≤ d.val then .rcv ⟨d.val - 26, by have : d.val < 50 := d.isLt; omega⟩
    else .other

theorem role_snd (s : Slot) : role (.dma (sendSem s)) = .snd s := by
  have hs := s.isLt
  unfold role sendSem
  dsimp only
  rw [dif_pos (by omega)]
  congr 1
  exact Fin.ext (by dsimp only; omega)
theorem role_rcv (s : Slot) : role (.dma (recvSem s)) = .rcv s := by
  have hs := s.isLt
  unfold role recvSem
  dsimp only
  rw [dif_neg (by omega), dif_pos (by omega)]
  congr 1
  exact Fin.ext (by dsimp only; omega)

def roleDuties : Role → Finset Bool
  | .bar => Finset.univ
  | .snd _ => {false}
  | .rcv _ => {false}
  | .other => ∅

/-- What device `c`'s units of a role hand over: the neighbour's slots, the source back, the landed block. -/
def rolePay (c : Dev nD) : Role → Bool → sProp 𝕄
  | .bar, false => bigSep xSlots fun s => slotAny (xn c) s
  | .bar, true => bigSep ySlots fun s => slotAny (yn c) s
  | .snd s, _ => srcPts X c s
  | .rcv s, _ => slotGot X c s
  | .other, _ => iprop(emp)

def roleAmount : Role → ℕ
  | .bar => 1
  | _ => N

/-- One round: a barrier cell has a duty from either neighbour, a transfer's cells one duty each. -/
def Rd : Rounds.Schedule (GSem nD τ sig) Bool 𝕄 where
  duties g r := if r = 0 ∧ g.1.2 = .tc then roleDuties (role g.2) else ∅
  unitless _ := False
  amount g _ _ := roleAmount (role g.2)
  payload g _ d := rolePay X g.1.1 (role g.2) d
  amount_pos g _ _ _ := by
    cases role g.2
    · exact Nat.one_pos
    all_goals exact N_pos

instance Rd_payload_storable (g : GSem nD τ sig) (r : ℕ) (d : Bool) :
    BI.Storable (upEmb : UEmb _ 𝕄) ((Rd X).payload g r d) := by
  show BI.Storable upEmb (rolePay X g.1.1 (role g.2) d)
  cases role g.2 <;> cases d <;> (unfold rolePay; infer_instance)

variable (c : Dev nD) (s : Slot)

theorem duties_bar : (Rd X).duties (barCell c) 0 = Finset.univ := by
  dsimp only [Rd]; rw [if_pos ⟨rfl, rfl⟩]; rfl
theorem duties_send : (Rd X).duties (sendCell c s) 0 = {false} := by
  dsimp only [Rd]; rw [if_pos ⟨rfl, rfl⟩, role_snd]; rfl
theorem duties_recv : (Rd X).duties (recvCell c s) 0 = {false} := by
  dsimp only [Rd]; rw [if_pos ⟨rfl, rfl⟩, role_rcv]; rfl
theorem duties_later (g : GSem nD τ sig) : ∀ r, 1 ≤ r → (Rd X).duties g r = ∅ :=
  fun r hr => if_neg fun h => by omega

theorem amount_bar (d : Bool) : (Rd X).amount (barCell c) 0 d = 1 := rfl
theorem amount_send (d : Bool) : (Rd X).amount (sendCell c s) 0 d = N := by dsimp only [Rd]; rw [role_snd]; rfl
theorem amount_recv (d : Bool) : (Rd X).amount (recvCell c s) 0 d = N := by dsimp only [Rd]; rw [role_rcv]; rfl

theorem expect_bar : (Rd X).expect (barCell c) 0 = 2 := by
  unfold Schedule.expect Schedule.amountOf
  rw [duties_bar, Finset.sum_congr rfl fun d _ => amount_bar X c d, Finset.sum_const, Finset.card_univ, Fintype.card_bool, smul_eq_mul]
theorem expect_send : (Rd X).expect (sendCell c s) 0 = N := by
  unfold Schedule.expect Schedule.amountOf; rw [duties_send, Finset.sum_singleton, amount_send]
theorem expect_recv : (Rd X).expect (recvCell c s) 0 = N := by
  unfold Schedule.expect Schedule.amountOf; rw [duties_recv, Finset.sum_singleton, amount_recv]

theorem payload_bar (d : Bool) : (Rd X).payload (barCell c) 0 d = rolePay X c .bar d := rfl
theorem payload_send (d : Bool) : (Rd X).payload (sendCell c s) 0 d = srcPts X c s := by
  dsimp only [Rd]; rw [role_snd]; rfl
theorem payload_recv (d : Bool) : (Rd X).payload (recvCell c s) 0 d = slotGot X c s := by
  dsimp only [Rd]; rw [role_rcv]; rfl

/-- After the barrier wait: every slot the device will write. -/
theorem rest_bar : bigSep ((Rd X).duties (barCell c) 0 \ ∅) (fun d => (Rd X).payload (barCell c) 0 d)
    = bigSep Finset.univ fun s : Slot => slotAny (peer s c) s := by
  rw [Finset.sdiff_empty, duties_bar, bigSep_univ_eq_bigSepL [false, true] (by decide) (by decide), bigSepL_cons_cons, bigSepL_singleton,
    payload_bar, payload_bar]
  show iprop((bigSep xSlots fun s => slotAny (xn c) s) ∗ bigSep ySlots fun s => slotAny (yn c) s) = _
  have hx : bigSep xSlots (fun s : Slot => (slotAny (xn c) s : sProp 𝕄)) = bigSep xSlots fun s => slotAny (peer s c) s :=
    bigSep_congr fun s hs => by unfold peer; rw [if_pos (Finset.mem_filter.mp hs).2]
  have hy : bigSep ySlots (fun s : Slot => (slotAny (yn c) s : sProp 𝕄)) = bigSep ySlots fun s => slotAny (peer s c) s :=
    bigSep_congr fun s hs => by unfold peer; rw [if_neg (Finset.mem_filter.mp hs).2]
  rw [hx, hy]
  exact (bigSep_filter_split Finset.univ _).symm
theorem rest_send : bigSep ((Rd X).duties (sendCell c s) 0 \ ∅) (fun d => (Rd X).payload (sendCell c s) 0 d) = srcPts X c s := by
  rw [Finset.sdiff_empty, duties_send, bigSep_singleton, payload_send]
theorem rest_recv : bigSep ((Rd X).duties (recvCell c s) 0 \ ∅) (fun d => (Rd X).payload (recvCell c s) 0 d) = slotGot X c s := by
  rw [Finset.sdiff_empty, duties_recv, bigSep_singleton, payload_recv]

end Contents

end Cert.KernelIdeal.Run
-- ==== Proof.Steps.lean ====
/-
One transfer at a time: sending a slot, waiting for a send, waiting for a landing.

`core` bundles what a device holds of the protocol: the invariants, what it still owes, and, slot by slot, the
tokens, credits and closed semaphores of the transfers not yet made, in flight and finished. Its lists only ever lose
their heads, in the program's own order, so each rule below is used 24 times at literal lists.
-/
module

public import proofs.«01_k».proof.Proof.Proto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels and what is owed -/

def L (g : GSem nD τ sig) : Finset Unit := if g.1.2 = .tc then {()} else ∅

def roleLevel : Role → ℕ
  | .bar => 1
  | .rcv s => 2 + s.val / 8
  | _ => 0

/-- Barrier cells at 1, landings at 2, 3 and 4 by stage, everything else at 0. -/
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- What device `c` owes while the slots of the list are still to be sent. -/
def owedL (c : Dev nD) : List Slot → CellTallies nD τ sig Unit
  | [] => 0
  | s :: l => owedL c l + tallyAt (recvCell (peer s c) s) () N

theorem owedL_pos {c : Dev nD} {g : GSem nD τ sig} {u : Unit} : ∀ {l : List Slot}, 0 < owedL c l g u → ∃ s ∈ l, g = recvCell (peer s c) s
  | [], h => absurd h (Nat.lt_irrefl 0)
  | s :: l, h => by
    unfold owedL at h
    rw [Pi.add_apply, Finsupp.add_apply, tallyAt_apply] at h
    by_cases hg : g = recvCell (peer s c) s ∧ u = ()
    · exact ⟨s, List.mem_cons_self, hg.1⟩
    · rw [if_neg hg, Nat.add_zero] at h
      obtain ⟨t, ht, e⟩ := owedL_pos h
      exact ⟨t, List.mem_cons_of_mem _ ht, e⟩

/-- A wait is allowed below every landing still owed. -/
theorem mayWait_list (c : Dev nD) (sm : SemLoc sig) (l : List Slot) (h : ∀ s ∈ l, roleLevel (role sm) < 2 + s.val / 8) :
    (levAts L lv : sProp 𝕄) ⊢ MayWait (c : Thread nD τ) sm () (owedL c l) :=
  MayOwe.of_cut (L := L) (lev := lv) (roleLevel (role sm)) (fun p hp => by rw [Finset.mem_singleton.mp hp, L_tc]; exact Finset.mem_singleton_self _)
    (fun g u hg => by obtain ⟨s, -, rfl⟩ := owedL_pos hg; exact Finset.mem_singleton_self _)
    (fun p hp => by rw [Finset.mem_singleton.mp hp]; exact Nat.le_refl _)
    (fun g u hg => by
      obtain ⟨s, hs, rfl⟩ := owedL_pos hg
      show roleLevel (role sm) < roleLevel (role (.dma (recvSem s)))
      rw [role_rcv]; exact h s hs)

/-! ## Lists of assertions -/

/-- The assertions of a list of slots, conjoined. -/
def chain (Φ : Slot → sProp 𝕄) : List Slot → sProp 𝕄
  | [] => iprop(emp)
  | s :: l => iprop(Φ s ∗ chain Φ l)

theorem chain_cons (Φ : Slot → sProp 𝕄) (s : Slot) (l : List Slot) : chain Φ (s :: l) = iprop(Φ s ∗ chain Φ l) := rfl

theorem chain_append (Φ : Slot → sProp 𝕄) (s : Slot) : ∀ l : List Slot, iprop(chain Φ l ∗ Φ s) ⊢ chain Φ (l ++ [s])
  | [] => by
    show iprop(emp ∗ Φ s) ⊢ iprop(Φ s ∗ emp)
    iintro ⟨-, H⟩; isplitl [H]; · iexact H
    iempintro
  | t :: l => by
    show iprop((Φ t ∗ chain Φ l) ∗ Φ s) ⊢ iprop(Φ t ∗ chain Φ (l ++ [s]))
    iintro ⟨⟨Ht, Hl⟩, Hs⟩
    isplitl [Ht]; · iexact Ht
    iapply (chain_append Φ s l)
    isplitl [Hl]; · iexact Hl
    iexact Hs

theorem chain_eq (Φ : Slot → sProp 𝕄) : ∀ l : List Slot, l.Nodup → chain Φ l = bigSep l.toFinset Φ
  | [], _ => by rw [List.toFinset_nil, bigSep_empty]; rfl
  | s :: l, h => by
    rw [List.toFinset_cons, bigSep_insert (by rw [List.mem_toFinset]; exact (List.nodup_cons.mp h).1), ← chain_eq Φ l (List.nodup_cons.mp h).2]
    rfl

/-! ## The protocol's state -/

/-- A cell of device's protocol: its barrier, a slot's send cell, a slot's receive cell. -/
abbrev Cix : Type := Option (Bool × Slot)
def csem : Cix → SemLoc sig
  | none => .reg barS
  | some (false, s) => .dma (sendSem s)
  | some (true, s) => .dma (recvSem s)
abbrev kcell (p : Dev nD × Cix) : GSem nD τ sig := ((p.1 : Thread nD τ), csem p.2)

variable (X : Inp (F := F)) (K : Dev nD × Cix → ℕ)

/-- Every cell's invariant, and that its one round is open. -/
def records : sProp 𝕄 := bigSep Finset.univ fun p : Dev nD × Cix => iprop(cellInv ER (Rd X) (K p) (kcell p) ∗ reached ER (kcell p) 0)

instance records_persistent : BI.Persistent (records X K) := by unfold records; infer_instance

theorem records_at (p : Dev nD × Cix) : records X K ⊢ iprop(cellInv ER (Rd X) (K p) (kcell p) ∗ reached ER (kcell p) 0) :=
  bigSep_elim (Finset.mem_univ p)

/-- A slot still to be sent; a slot in flight; a slot still to land. -/
def todo (c : Dev nD) (s : Slot) : sProp 𝕄 :=
  iprop(dutyTok ER (sendCell c s) 0 false ∗ dutyTok ER (recvCell (peer s c) s) 0 false ∗ slotAny (peer s c) s ∗ atPos ER (sendCell c s) 0 ∅ 0)
def flying (c : Dev nD) (s : Slot) : sProp 𝕄 := iprop(cred (tallyAt (sendCell c s) () N) ∗ atPos ER (sendCell c s) 0 ∅ 0)
def landing (c : Dev nD) (s : Slot) : sProp 𝕄 := iprop(cred (tallyAt (recvCell c s) () N) ∗ atPos ER (recvCell c s) 0 ∅ 0)
def sendShut (c : Dev nD) (s : Slot) : sProp 𝕄 := semVal (sendCell c s) 0
def recvShut (c : Dev nD) (s : Slot) : sProp 𝕄 := semVal (recvCell c s) 0

/-- Device `c`'s protocol state: `ls` to be sent, `lf` in flight, `lr` to land, `ds` and `dr` finished. -/
def core (c : Dev nD) (ls lf lr ds dr : List Slot) : sProp 𝕄 :=
  iprop(records X K ∗ levAts L lv ∗ (∃ W, owes (c : Thread nD τ) (owedL c ls) W)
    ∗ chain (todo c) ls ∗ chain (flying c) lf ∗ chain (landing c) lr ∗ chain (sendShut c) ds ∗ chain (recvShut c) dr)

abbrev 𝒱₀ : Variants := Variants.none

variable {α : Type}

/-- Running a program of device `c`'s TensorCore. -/
abbrev Runs (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What a transfer writes over a slot is the block it carries. -/
theorem landed_pay (c : Dev nD) (s : Slot) (fd : Buf (Elt F) ((slotM s).view.loc (peer s c : Thread nD τ))) :
    ((slotM s).view.loc (peer s c : Thread nD τ) ↦[(slotM s).view.set]{fullShare}
      ((slotM s).view.write (Elt F) fd ((srcM c s).view.read (Elt F) ((srcM c s).view.rep (sent X c s))) Finset.univ) : sProp 𝕄)
      ⊢ slotGot X (peer s c) s := by
  unfold slotGot slotAt
  rw [View.read_rep, peer_peer]
  refine Entails.of_eq (pointsTo_congr fun i hi => ?_)
  obtain ⟨x, -, rfl⟩ := Finset.mem_map.mp hi
  rw [View.rep_emb, View.write_emb_of_mem _ _ (Finset.mem_univ _)]

/-- Send the next slot. -/
theorem step_send (c : Dev nD) (s : Slot) {ls lf lr ds dr : List Slot} {n : Dev nD} (hn : n = peer s c)
    {src : Memref sig .tc .vmem S64x512 .f32} (hs : src = srcM c s)
    {dst : Memref sig (Dev.tc n : Thread nD τ).2.kind .vmem S64x512 .f32} (hd : dst = slotM s)
    {sS sR : DmaSem sig} (hS : sS = sendSem s) (hR : sR = recvSem s)
    {hsc : dst.view.ref.isScScratch = false} {h₁ : src.view.WordExact} {h₂ : dst.view.WordExact}
    {h₃ : DmaTarget.Typed .vmem (.dma sR) (.remote (Dev.tc n : Thread nD τ) dst (.dma sS) hsc)}
    {k : PUnit → Prog (TpuEff nD τ sig (Elt F) Λ₀ .tc) α} {Q : α → sProp 𝕄} :
    iprop(core X K c (s :: ls) lf lr ds dr ∗ srcPts X c s)
      ⊢ iprop((core X K c ls (lf ++ [s]) lr ds dr -∗ Runs c (k ⟨⟩) Q)
          -∗ Runs c (.op (.enqueueDma src (.remote (Dev.tc n : Thread nD τ) dst (.dma sS) hsc) (.dma sR) h₁ h₂ h₃) k) Q) := by
  subst hn; subst hS; subst hR; subst hs; subst hd
  unfold core srcPts
  rw [chain_cons, show todo (F := F) c s = iprop(dutyTok ER (sendCell c s) 0 false ∗ dutyTok ER (recvCell (peer s c) s) 0 false
    ∗ (∃ f : Buf (Elt F) ((slotM s).view.loc (peer s c : Thread nD τ)), (slotM s).view.loc (peer s c : Thread nD τ) ↦[(slotM s).view.set]{fullShare} f)
    ∗ atPos ER (sendCell c s) 0 ∅ 0) from rfl]
  iintro ⟨⟨#HR, #Hlev, ⟨%W, HO⟩, ⟨⟨Ht1, Ht2, ⟨%fd, Hslot⟩, Hat⟩, Htodo⟩, Hfly, Hrest⟩, Hsrc⟩
  iintro Hk
  ihave Hi1 := (records_at X K (c, some (false, s))) $$ HR
  icases Hi1 with ⟨#HI1, #Hr1⟩
  ihave Hi2 := (records_at X K (peer s c, some (true, s))) $$ HR
  icases Hi2 with ⟨#HI2, #Hr2⟩
  iapply (Rounds.wp_send_pointsTo 𝒱₀ ER (Rd X) (c : Thread nD τ) none (κ₁ := K (c, some (false, s))) (κ₂ := K (peer s c, some (true, s)))
    (c' := (peer s c : Thread nD τ)) (sS := .dma (sendSem s)) (sem := .dma (recvSem s)) (r₁ := 0) (r₂ := 0) (d₁ := false) (d₂ := false) (fd := fd) (q := srcShare s)
    (by rw [duties_send]; exact Finset.mem_singleton_self _) (by rw [duties_recv]; exact Finset.mem_singleton_self _)
    () () N (slot_credit s) (amount_send X c s false) (amount_recv X (peer s c) s false) (owedL c ls) rfl (W := W)
    (by rw [payload_send]; exact BI.Entails.refl _)
    (by rw [payload_recv]; exact landed_pay X c s fd)) $$ [HO Ht1 Ht2 Hslot Hsrc]
  · isplitr; · iexact HI1
    isplitr; · iexact HI2
    isplitl [Hsrc]; · iexact Hsrc
    isplitl [Hslot]; · iexact Hslot
    isplitl [HO]; · iexact HO
    isplitl [Ht1]; · iexact Ht1
    isplitr; · iexact Hr1
    isplitl [Ht2]; · iexact Ht2
    iexact Hr2
  iintro ⟨Hc, HO⟩
  iapply Hk
  isplitr; · iexact HR
  isplitr; · iexact Hlev
  isplitl [HO]; · iexists W; iexact HO
  isplitl [Htodo]; · iexact Htodo
  isplitl [Hfly Hc Hat]
  · iapply (chain_append (flying c) s lf)
    isplitl [Hfly]; · iexact Hfly
    unfold flying
    isplitl [Hc]; · iexact Hc
    iexact Hat
  iexact Hrest

/-- Wait for the oldest send: its source is the device's again. -/
theorem step_sent (c : Dev nD) (s : Slot) {ls lf lr ds dr : List Slot}
    {src dst : Memref sig .tc .vmem S64x512 .f32} (hs : src = srcM c s)
    {sS : DmaSem sig} (hS : sS = sendSem s) {h₁ : dst.view.WordExact} {h₂ : src.view.WordExact}
    {k : PUnit → Prog (TpuEff nD τ sig (Elt F) Λ₀ .tc) α} {Q : α → sProp 𝕄} :
    core X K c ls (s :: lf) lr ds dr
      ⊢ iprop((iprop(core X K c ls lf lr (s :: ds) dr ∗ srcPts X c s) -∗ Runs c (k ⟨⟩) Q)
          -∗ Runs c (.op (.waitDma2 sS dst src h₁ h₂) k) Q) := by
  subst hS; subst hs
  unfold core
  rw [chain_cons, chain_cons, show flying (F := F) c s = iprop(cred (tallyAt (sendCell c s) () N) ∗ atPos ER (sendCell c s) 0 ∅ 0) from rfl]
  iintro ⟨#HR, #Hlev, ⟨%W, HO⟩, Htodo, ⟨⟨Hc, Hat⟩, Hfly⟩, Hland, Hds, Hdr⟩
  iintro Hk
  ihave Hi1 := (records_at X K (c, some (false, s))) $$ HR
  icases Hi1 with ⟨#HI1, #Hr1⟩
  iapply (Rounds.wp_wait_rest_token 𝒱₀ ER (Rd X) (c : Thread nD τ) none (κ := K (c, some (false, s)))
      (wpE_waitDma2_eq 𝒱₀ (c : Thread nD τ) none Set.univ) (Set.mem_univ _) () (O := owedL c ls) (W := W) (R := 0) (m := 0) (T := ∅)
      (k' := (srcM c s).view.dmaCredit) (by rw [Nat.zero_add, expect_send, src_credit c s])) $$ [Hc HO Hat]
  · isplitr; · iexact HI1
    isplitl [Hc]; · rw [src_credit]; iexact Hc
    isplitl [HO]; · iexact HO
    isplitr
    · iapply (mayWait_list c (.dma (sendSem s)) ls (fun t _ => by rw [role_snd]; exact Nat.lt_of_lt_of_le Nat.two_pos (Nat.le_add_right 2 _)))
      iexact Hlev
    iexact Hat
  iintro ⟨HO, Hat, -, Hpay⟩
  ihave Hsrc := (Entails.of_eq (rest_send X c s)) $$ Hpay
  imod (Rounds.cell_close ER (Rd X) (Set.mem_univ (K (c, some (false, s)))) (fun h => h) (R := 0 + 1) (duties_later X (sendCell c s))) $$ [Hat] with Hz
  · isplitr; · iexact HI1
    iexact Hat
  iapply Hk
  isplitr [Hsrc]
  · isplitr; · iexact HR
    isplitr; · iexact Hlev
    isplitl [HO]; · iexists _; iexact HO
    isplitl [Htodo]; · iexact Htodo
    isplitl [Hfly]; · iexact Hfly
    isplitl [Hland]; · iexact Hland
    isplitl [Hds Hz]
    · isplitl [Hz]; · unfold sendShut; iexact Hz
      iexact Hds
    iexact Hdr
  iexact Hsrc

/-- Wait for the next landing: the slot holds the peer's block. -/
theorem step_recv (c : Dev nD) (s : Slot) {ls lf lr ds dr : List Slot} (hl : ∀ t ∈ ls, s.val / 8 < t.val / 8)
    {src dst : Memref sig .tc .vmem S64x512 .f32} (hd : dst = slotM s)
    {sR : DmaSem sig} (hR : sR = recvSem s) {h₁ : src.view.WordExact} {h₂ : dst.view.WordExact}
    {k : PUnit → Prog (TpuEff nD τ sig (Elt F) Λ₀ .tc) α} {Q : α → sProp 𝕄} :
    core X K c ls lf (s :: lr) ds dr
      ⊢ iprop((iprop(core X K c ls lf lr ds (s :: dr) ∗ slotGot X c s) -∗ Runs c (k ⟨⟩) Q)
          -∗ Runs c (.op (.waitDma2 sR src dst h₁ h₂) k) Q) := by
  subst hR; subst hd
  unfold core
  rw [chain_cons, chain_cons, show landing (F := F) c s = iprop(cred (tallyAt (recvCell c s) () N) ∗ atPos ER (recvCell c s) 0 ∅ 0) from rfl]
  iintro ⟨#HR, #Hlev, ⟨%W, HO⟩, Htodo, Hfly, ⟨⟨Hc, Hat⟩, Hland⟩, Hds, Hdr⟩
  iintro Hk
  ihave Hi1 := (records_at X K (c, some (true, s))) $$ HR
  icases Hi1 with ⟨#HI1, #Hr1⟩
  iapply (Rounds.wp_wait_rest_token 𝒱₀ ER (Rd X) (c : Thread nD τ) none (κ := K (c, some (true, s)))
      (wpE_waitDma2_eq 𝒱₀ (c : Thread nD τ) none Set.univ) (Set.mem_univ _) () (O := owedL c ls) (W := W) (R := 0) (m := 0) (T := ∅)
      (by rw [Nat.zero_add, expect_recv])) $$ [Hc HO Hat]
  · isplitr; · iexact HI1
    isplitl [Hc]; · iexact Hc
    isplitl [HO]; · iexact HO
    isplitr
    · iapply (mayWait_list c (.dma (recvSem s)) ls (fun t ht => by rw [role_rcv]; exact Nat.add_lt_add_left (hl t ht) 2))
      iexact Hlev
    iexact Hat
  iintro ⟨HO, Hat, -, Hpay⟩
  ihave Hgot := (Entails.of_eq (rest_recv X c s)) $$ Hpay
  imod (Rounds.cell_close ER (Rd X) (Set.mem_univ (K (c, some (true, s)))) (fun h => h) (R := 0 + 1) (duties_later X (recvCell c s))) $$ [Hat] with Hz
  · isplitr; · iexact HI1
    iexact Hat
  iapply Hk
  isplitr [Hgot]
  · isplitr; · iexact HR
    isplitr; · iexact Hlev
    isplitl [HO]; · iexists _; iexact HO
    isplitl [Htodo]; · iexact Htodo
    isplitl [Hfly]; · iexact Hfly
    isplitl [Hland]; · iexact Hland
    isplitl [Hds]; · iexact Hds
    isplitl [Hz]; · unfold recvShut; iexact Hz
    iexact Hdr
  iexact Hgot

end Cert.KernelIdeal.Run
-- ==== Proof.Mem.lean ====
/-
Loads and stores of the kernel, and how its buffers come apart into the pieces the transfers own.

`holds c m q v` is a piece `m` of device `c`'s memory, at share `q`, holding the block `v`; `junk c m` is the piece
holding anything. The input is read at its left half throughout, while its right half travels with the transfers; an
accumulator's chunk is whole while it is written and keeps its left half while its second reduction is on its way.
-/
module

public import proofs.«01_k».proof.Proof.Steps
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces of memory -/

section Pieces
variable {S : Shape}

def holds (c : Dev nD) (m : Memref sig .tc .vmem S .f32) (q : PosShare TreeShare) (v : Vec F S .f32) : sProp 𝕄 :=
  m.view.loc (c : Thread nD τ) ↦[m.view.set]{q} m.view.rep v

def junk (c : Dev nD) (m : Memref sig .tc .vmem S .f32) : sProp 𝕄 :=
  iprop(∃ f : Buf (Elt F) (m.view.loc (c : Thread nD τ)), m.view.loc (c : Thread nD τ) ↦[m.view.set]{fullShare} f)

theorem holds_junk (c : Dev nD) (m : Memref sig .tc .vmem S .f32) (v : Vec F S .f32) : holds c m fullShare v ⊢ junk c m := by
  unfold holds junk
  iintro H; iexists _; iexact H

/-- Any contents are the contents they are read as. -/
theorem holds_of (c : Dev nD) (m : Memref sig .tc .vmem S .f32) (q : PosShare TreeShare) (g : Buf (Elt F) (m.view.loc (c : Thread nD τ))) :
    (m.view.loc (c : Thread nD τ) ↦[m.view.set]{q} g : sProp 𝕄) = holds c m q (m.view.read (Elt F) g) :=
  pointsTo_rep (Ix := Unit) (Name := ℕ) (U := UU) (Lvl := ℕ) (c : Thread nD τ) m g q

theorem holds_halves (c : Dev nD) (m : Memref sig .tc .vmem S .f32) (v : Vec F S .f32) :
    holds c m fullShare v ⊣⊢ iprop(holds c m fullShare.left v ∗ holds c m fullShare.right v) :=
  pointsTo_share (PosShare.mem_left_op_right fullShare)

end Pieces

theorem srcPts_eq (X : Inp (F := F)) (c : Dev nD) (s : Slot) : srcPts X c s = holds c (srcM c s) (srcShare s) (sent X c s) := rfl
theorem slotAt_eq (c : Dev nD) (s : Slot) (v : Blk (F := F)) : slotAt c s v = holds c (slotM s) fullShare v := rfl
theorem slotAny_eq (c : Dev nD) (s : Slot) : slotAny (F := F) c s = junk c (slotM s) := rfl

/-! ## Loads and stores -/

section Rules
variable {S : Shape} {α : Type}

/-- Read a piece. -/
theorem load_piece (c : Dev nD) {M : Memref sig .tc .vmem S .f32} (r : Rect S) (hr : ∀ a, r.stride a = 1) {q : PosShare TreeShare}
    {v : Vec F r.shape .f32} {hl : M.view.LoadsAt r.toLoadRect} {k : Vec F r.shape .f32 → Prog (TpuEff nD τ sig (Elt F) Λ₀ .tc) α} {Q : α → sProp 𝕄} :
    holds c (M.slice r hr) q v ⊢ iprop((holds c (M.slice r hr) q v -∗ Runs c (k v) Q) -∗ Runs c (.op (.load M r.toLoadRect hl) k) Q) := by
  have e : (M.access r).read (Elt F) ((M.slice r hr).view.rep v) = v := View.read_rep _ v
  suffices H : ∀ w, (M.access r).read (Elt F) ((M.slice r hr).view.rep v) = w →
      (holds c (M.slice r hr) q v ⊢ iprop((holds c (M.slice r hr) q v -∗ Runs c (k w) Q) -∗ Runs c (.op (.load M r.toLoadRect hl) k) Q)) from H v e
  rintro w rfl
  exact wp_load_rect 𝒱₀ (c : Thread nD τ) none Set.univ (m := M) (r := r) (S := (M.access r).set) (q := q) (f := (M.slice r hr).view.rep v)
    (Finset.Subset.refl _)

/-- Read a piece holding anything. -/
theorem load_junk (c : Dev nD) {M : Memref sig .tc .vmem S .f32} (r : Rect S) (hr : ∀ a, r.stride a = 1)
    {hl : M.view.LoadsAt r.toLoadRect} {k : Vec F r.shape .f32 → Prog (TpuEff nD τ sig (Elt F) Λ₀ .tc) α} {Q : α → sProp 𝕄} :
    junk c (M.slice r hr) ⊢ iprop((∀ v, junk c (M.slice r hr) -∗ Runs c (k v) Q) -∗ Runs c (.op (.load M r.toLoadRect hl) k) Q) := by
  unfold junk
  iintro ⟨%f, H⟩
  iintro Hk
  iapply (wp_load_rect 𝒱₀ (c : Thread nD τ) none Set.univ (m := M) (r := r) (S := (M.access r).set) (q := fullShare) (f := f) (Finset.Subset.refl _)) $$ [H]
  · iexact H
  iintro H
  iapply Hk
  iexists f
  iexact H

/-- Overwrite a piece. -/
theorem store_piece (c : Dev nD) {M : Memref sig .tc .vmem S .f32} (r : Rect S) (hr : ∀ a, r.stride a = 1) {w v : Vec F r.shape .f32} (hw : w = v)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    junk c (M.slice r hr) ⊢ iprop((holds c (M.slice r hr) fullShare v -∗ Runs c (k ⟨⟩) Q) -∗ Runs c (.op (.store M r w Finset.univ hx hm) k) Q) := by
  subst hw
  unfold junk
  iintro ⟨%f, H⟩
  iintro Hk
  iapply (wp_store 𝒱₀ (c : Thread nD τ) none Set.univ (m := M) (r := r) (S := (M.access r).set) (f := f) (Finset.Subset.refl _)) $$ [H]
  · iexact H
  iintro H
  iapply Hk
  unfold holds
  rw [show ((M.slice r hr).view.loc (c : Thread nD τ) ↦[(M.slice r hr).view.set]{fullShare} (M.slice r hr).view.rep w : sProp 𝕄)
      = (M.access r).loc (c : Thread nD τ) ↦[(M.access r).set]{fullShare} (M.access r).write (Elt F) f w Finset.univ from
    pointsTo_congr fun i hi => by
      obtain ⟨x, -, rfl⟩ := Finset.mem_map.mp hi
      rw [View.rep_emb]
      exact (View.write_emb_of_mem _ _ (Finset.mem_univ _)).symm]
  iexact H

/-- The input's left half, which stays with the device. -/
def xHeld (X : Inp (F := F)) (c : Dev nD) : sProp 𝕄 := (c : Thread nD τ).loc cc0_stg0_0 ↦{fullShare.left} X c

/-- Read rows of the input. -/
theorem load_x (X : Inp (F := F)) (c : Dev nD) (r : Rect S1024x512) (hr : ∀ a, r.stride a = 1)
    {hl : xM.view.LoadsAt r.toLoadRect} {k : Vec F r.shape .f32 → Prog (TpuEff nD τ sig (Elt F) Λ₀ .tc) α} {Q : α → sProp 𝕄} :
    xHeld X c ⊢ iprop((xHeld X c -∗ Runs c (k ((xM.slice r hr).view.read (Elt F) (X c))) Q) -∗ Runs c (.op (.load xM r.toLoadRect hl) k) Q) :=
  wp_load_rect 𝒱₀ (c : Thread nD τ) none Set.univ (m := xM) (r := r) (S := Finset.univ) (q := fullShare.left) (f := X c) (Finset.subset_univ _)

/-- The rows kept: pipe A's and pipe B's. -/
theorem load_keepA (X : Inp (F := F)) (c : Dev nD) (i : Fin 4)
    {hl : xM.view.LoadsAt (keepAR c i).toLoadRect} {k : Blk (F := F) → Prog (TpuEff nD τ sig (Elt F) Λ₀ .tc) α} {Q : α → sProp 𝕄} :
    xHeld X c ⊢ iprop((xHeld X c -∗ Runs c (k (keepA X c i)) Q) -∗ Runs c (.op (.load xM (keepAR c i).toLoadRect hl) k) Q) :=
  load_x X c (keepAR c i) (fun _ => rfl)
theorem load_keepB (X : Inp (F := F)) (c : Dev nD) (i : Fin 4)
    {hl : xM.view.LoadsAt (keepBR c i).toLoadRect} {k : Blk (F := F) → Prog (TpuEff nD τ sig (Elt F) Λ₀ .tc) α} {Q : α → sProp 𝕄} :
    xHeld X c ⊢ iprop((xHeld X c -∗ Runs c (k (keepB X c i)) Q) -∗ Runs c (.op (.load xM (keepBR c i).toLoadRect hl) k) Q) :=
  load_x X c (keepBR c i) (fun _ => rfl)

/-- A slot as the program reads it: one page of the landing buffer. -/
def page (s : Slot) (v : Blk (F := F)) : Vec F S1x64x512 .f32 := (lM.slice (slotR s) (fun _ => rfl)).view.read (Elt F) ((slotM s).view.rep v)

theorem cast_page (s : Slot) (v : Blk (F := F)) (h : S1x64x512.ShapeCasts S64x512) : shapeCast S64x512 (page s v) h = v := by
  have e : shapeCast S64x512 (page s v) h = (slotM s).view.read (Elt F) ((slotM s).view.rep v) := rfl
  rw [e, View.read_rep]

/-- Read a landed slot. -/
theorem load_slot (X : Inp (F := F)) (c : Dev nD) (s : Slot) {hl : lM.view.LoadsAt (slotR s).toLoadRect}
    {k : Vec F S1x64x512 .f32 → Prog (TpuEff nD τ sig (Elt F) Λ₀ .tc) α} {Q : α → sProp 𝕄} :
    slotGot X c s ⊢ iprop((slotGot X c s -∗ Runs c (k (page s (sent X (peer s c) s))) Q) -∗ Runs c (.op (.load lM (slotR s).toLoadRect hl) k) Q) :=
  wp_load_rect 𝒱₀ (c : Thread nD τ) none Set.univ (m := lM) (r := slotR s) (S := (slotM s).view.set) (q := fullShare)
    (f := (slotM s).view.rep (sent X (peer s c) s))
    (by rw [show (slotM s).view.set = (lM.access (slotR s)).set from View.set_reshape _ _])

/-- Send a piece that is the slot's source. -/
theorem send_piece (X : Inp (F := F)) (K : Dev nD × Cix → ℕ) (c : Dev nD) (s : Slot) {P : sProp 𝕄} (hP : P = srcPts X c s)
    {ls lf lr ds dr : List Slot} {n : Dev nD} (hn : n = peer s c)
    {src : Memref sig .tc .vmem S64x512 .f32} (hs : src = srcM c s)
    {dst : Memref sig (Dev.tc n : Thread nD τ).2.kind .vmem S64x512 .f32} (hd : dst = slotM s)
    {sS sR : DmaSem sig} (hS : sS = sendSem s) (hR : sR = recvSem s)
    {hsc : dst.view.ref.isScScratch = false} {h₁ : src.view.WordExact} {h₂ : dst.view.WordExact}
    {h₃ : DmaTarget.Typed .vmem (.dma sR) (.remote (Dev.tc n : Thread nD τ) dst (.dma sS) hsc)}
    {k : PUnit → Prog (TpuEff nD τ sig (Elt F) Λ₀ .tc) α} {Q : α → sProp 𝕄} :
    iprop(core X K c (s :: ls) lf lr ds dr ∗ P)
      ⊢ iprop((core X K c ls (lf ++ [s]) lr ds dr -∗ Runs c (k ⟨⟩) Q)
          -∗ Runs c (.op (.enqueueDma src (.remote (Dev.tc n : Thread nD τ) dst (.dma sS) hsc) (.dma sR) h₁ h₂ h₃) k) Q) := by
  subst hP
  exact step_send X K c s hn hs hd hS hR

/-- Wait for the oldest send: the piece it was sent from comes back. -/
theorem sent_piece (X : Inp (F := F)) (K : Dev nD × Cix → ℕ) (c : Dev nD) (s : Slot) {P : sProp 𝕄} (hP : srcPts X c s = P)
    {ls lf lr ds dr : List Slot} {src dst : Memref sig .tc .vmem S64x512 .f32} (hs : src = srcM c s)
    {sS : DmaSem sig} (hS : sS = sendSem s) {h₁ : dst.view.WordExact} {h₂ : src.view.WordExact}
    {k : PUnit → Prog (TpuEff nD τ sig (Elt F) Λ₀ .tc) α} {Q : α → sProp 𝕄} :
    core X K c ls (s :: lf) lr ds dr
      ⊢ iprop((iprop(core X K c ls lf lr (s :: ds) dr ∗ P) -∗ Runs c (k ⟨⟩) Q)
          -∗ Runs c (.op (.waitDma2 sS dst src h₁ h₂) k) Q) := by
  subst hP
  exact step_sent X K c s hs hS

/-- The end of a piece of program. -/
theorem runs_ret (c : Dev nD) (a : α) (Q : α → sProp 𝕄) : Q a ⊢ Runs c (Prog.ret a) Q := by
  unfold Runs
  rw [wp_ret]
  iintro H
  imodintro
  iexact H

end Rules

/-- The payloads of the reductions are sums. -/
theorem sum_page (a : Blk (F := F)) (s : Slot) (b : Blk (F := F)) (h₁ h₃ : S64x512.ShapeCasts S64x512) (h₂ : S1x64x512.ShapeCasts S64x512) :
    shapeCast S64x512 (addf (shapeCast S64x512 a h₁) (shapeCast S64x512 (page s b) h₂)) h₃ = addf a b := by
  rw [shapeCast_self, shapeCast_self, cast_page]
theorem sum_page' (a : Blk (F := F)) (s : Slot) (b : Blk (F := F)) (h₃ : S64x512.ShapeCasts S64x512) (h₂ : S1x64x512.ShapeCasts S64x512) :
    shapeCast S64x512 (addf a (shapeCast S64x512 (page s b) h₂)) h₃ = addf a b := by
  rw [shapeCast_self, cast_page]

end Cert.KernelIdeal.Run
-- ==== Proof.Pieces.lean ====
/-
How whole buffers come apart: an accumulator into its four chunks, the input's travelling half into the eight blocks of
rows that are sent and the rest, the landing buffer into its 24 slots, and the result buffer by rows written.
-/
module

public import proofs.«01_k».proof.Proof.Mem
public import Idealize.ShloMosaic.Lib.ValueIdxCore

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

/-- The elements of device `c`'s buffer that a rectangle of a memref covers. -/
abbrev cover {S : Shape} (c : Dev nD) (M : Memref sig .tc .vmem S .f32) (r : Rect S) : Finset (Idx (M.view.loc (c : Thread nD τ))) :=
  (M.view.slice r).set

theorem cover_disjoint {S : Shape} (c : Dev nD) (M : Memref sig .tc .vmem S .f32) {r r' : Rect S} (h : Disjoint r.set r'.set) :
    Disjoint (cover c M r) (cover c M r') := by
  unfold cover
  rw [View.set_slice, View.set_slice]
  exact (Finset.disjoint_map _).mpr h

/-- Disjoint rectangles of a memref, each at its part of `w`, are their union at `w`. -/
theorem pieces {S : Shape} {T : Type} (A : Finset T) (c : Dev nD) (M : Memref sig .tc .vmem S .f32) (R : T → Rect S) (hr : ∀ t a, (R t).stride a = 1)
    (hd : ∀ t t', t ≠ t' → Disjoint (R t).set (R t').set) (q : PosShare TreeShare) (w : Vec F S .f32) :
    bigSep A (fun t => holds c (M.slice (R t) (hr t)) q (fun j => w ((R t).emb j)))
      = (M.view.loc (c : Thread nD τ) ↦[A.biUnion fun t => cover c M (R t)]{q} M.view.rep w : sProp 𝕄) := by
  have h := pointsTo_biUnion (ℓ := M.view.loc (c : Thread nD τ)) (Ix := Unit) (Name := ℕ) (U := UU) (Lvl := ℕ) (q := q) (f := M.view.rep w)
    A (fun t => cover c M (R t)) (fun t _ t' _ h => cover_disjoint c M (hd t t' h))
  refine Eq.trans ?_ h.symm
  refine bigSep_congr fun t _ => ?_
  unfold holds
  refine pointsTo_congr fun i hi => ?_
  obtain ⟨x, -, rfl⟩ := Finset.mem_map.mp hi
  rw [View.rep_emb]
  exact (View.rep_emb M.view w ((R t).emb x)).symm

/-- A memref cut into disjoint rectangles that cover it. -/
theorem cut {S : Shape} {T : Type} [Fintype T] (c : Dev nD) (M : Memref sig .tc .vmem S .f32) (R : T → Rect S) (hr : ∀ t a, (R t).stride a = 1)
    (hd : ∀ t t', t ≠ t' → Disjoint (R t).set (R t').set) (hc : ∀ i, ∃ t, i ∈ (R t).set) (q : PosShare TreeShare) (w : Vec F S .f32) :
    holds c M q w = bigSep Finset.univ (fun t => holds c (M.slice (R t) (hr t)) q (fun j => w ((R t).emb j))) := by
  rw [pieces _ c M R hr hd q w]
  unfold holds
  congr 1
  ext i
  rw [Finset.mem_biUnion]
  constructor
  · intro h
    obtain ⟨x, -, rfl⟩ := Finset.mem_map.mp h
    obtain ⟨t, ht⟩ := hc x
    refine ⟨t, Finset.mem_univ _, ?_⟩
    show M.view.emb x ∈ (M.view.slice (R t)).set
    rw [View.set_slice]
    exact Finset.mem_map_of_mem _ ht
  · rintro ⟨t, -, h⟩
    exact View.set_slice_subset M.view (R t) h

/-! ## The accumulators -/

theorem chunk_mem (k : Fin 4) (i : S256x512.Idx) : i ∈ (chunkR k).set ↔ (i 0).val / 64 = k.val := by
  rw [Rect.mem_set_unit]
  have h1 : (i 1).val < 512 := (i 1).isLt
  constructor
  · intro h
    have h0 := h 0
    have a : 64 * k.val ≤ (i 0).val ∧ (i 0).val < 64 * k.val + 64 := h0
    omega
  · intro h a
    match a with
    | 0 => show 64 * k.val ≤ (i 0).val ∧ (i 0).val < 64 * k.val + 64; omega
    | 1 => show 0 ≤ (i 1).val ∧ (i 1).val < 0 + 512; omega

/-- Four chunks of 64 rows as one array of 256. -/
def stack (v : Fin 4 → Blk (F := F)) : Vec F S256x512 .f32 := fun i =>
  v ⟨(i 0).val / 64, by have : (i 0).val < 256 := (i 0).isLt; omega⟩ (ix2 ⟨(i 0).val % 64, Nat.mod_lt _ (by decide)⟩ ⟨(i 1).val, (i 1).isLt⟩)

theorem stack_emb (v : Fin 4 → Blk (F := F)) (k : Fin 4) (j : S64x512.Idx) : stack v ((chunkR k).emb j) = v k j := by
  have h0 : (j 0).val < 64 := (j 0).isLt
  have e0 : (((chunkR k).emb j) 0).val = 64 * k.val + 1 * (j 0).val := Rect.emb_apply _ _ _
  have e1 : (((chunkR k).emb j) 1).val = 0 + 1 * (j 1).val := Rect.emb_apply _ _ _
  unfold stack
  refine congr ?_ ?_
  · exact congrArg v (Fin.ext (by dsimp only; omega))
  · funext a
    match a with
    | 0 => exact Fin.ext (by show (((chunkR k).emb j) 0).val % 64 = (j 0).val; omega)
    | 1 => exact Fin.ext (by show (((chunkR k).emb j) 1).val = (j 1).val; omega)

theorem acc_cut (c : Dev nD) (M : Memref sig .tc .vmem S256x512 .f32) (q : PosShare TreeShare) (v : Fin 4 → Blk (F := F)) :
    holds c M q (stack v) = bigSep Finset.univ (fun k => holds c (M.slice (chunkR k) (fun _ => rfl)) q (v k)) := by
  rw [cut c M chunkR (fun _ _ => rfl)
    (fun k k' h => Finset.disjoint_left.mpr fun i hi hi' => h (Fin.ext (((chunk_mem k i).mp hi).symm.trans ((chunk_mem k' i).mp hi'))))
    (fun i => ⟨⟨(i 0).val / 64, by have : (i 0).val < 256 := (i 0).isLt; omega⟩, (chunk_mem _ i).mpr rfl⟩)]
  exact bigSep_congr fun k _ => congrArg _ (funext fun j => stack_emb v k j)

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

theorem acc_join (c : Dev nD) (M : Memref sig .tc .vmem S256x512 .f32) (q : PosShare TreeShare) (v : Fin 4 → Blk (F := F)) :
    iprop(holds c (M.slice (chunkR 0) (fun _ => rfl)) q (v 0) ∗ holds c (M.slice (chunkR 1) (fun _ => rfl)) q (v 1)
      ∗ holds c (M.slice (chunkR 2) (fun _ => rfl)) q (v 2) ∗ holds c (M.slice (chunkR 3) (fun _ => rfl)) q (v 3)) ⊢ holds c M q (stack v) :=
  Entails.of_eq ((acc_cut c M q v).trans (four _)).symm

/-- An accumulator of any contents is four chunks of some contents. -/
theorem acc_open (c : Dev nD) (M : Memref sig .tc .vmem S256x512 .f32) :
    junk (F := F) c M ⊢ iprop(junk c (M.slice (chunkR 0) (fun _ => rfl)) ∗ junk c (M.slice (chunkR 1) (fun _ => rfl))
      ∗ junk c (M.slice (chunkR 2) (fun _ => rfl)) ∗ junk c (M.slice (chunkR 3) (fun _ => rfl))) := by
  have e : ∀ f : Buf (Elt F) (M.view.loc (c : Thread nD τ)), (M.view.loc (c : Thread nD τ) ↦[M.view.set]{fullShare} f : sProp 𝕄)
      = bigSep Finset.univ (fun k => holds c (M.slice (chunkR k) (fun _ => rfl)) fullShare
          (fun j => M.view.read (Elt F) f ((chunkR k).emb j))) := fun f => by
    rw [holds_of, cut c M chunkR (fun _ _ => rfl)
      (fun k k' h => Finset.disjoint_left.mpr fun i hi hi' => h (Fin.ext (((chunk_mem k i).mp hi).symm.trans ((chunk_mem k' i).mp hi'))))
      (fun i => ⟨⟨(i 0).val / 64, by have : (i 0).val < 256 := (i 0).isLt; omega⟩, (chunk_mem _ i).mpr rfl⟩)]
  rw [show junk (F := F) c M = iprop(∃ f : Buf (Elt F) (M.view.loc (c : Thread nD τ)), M.view.loc (c : Thread nD τ) ↦[M.view.set]{fullShare} f) from rfl]
  iintro ⟨%f, H⟩
  ihave H := (Entails.of_eq ((e f).trans (four _))) $$ H
  icases H with ⟨H0, H1, H2, H3⟩
  isplitl [H0]; · iapply (holds_junk c); iexact H0
  isplitl [H1]; · iapply (holds_junk c); iexact H1
  isplitl [H2]; · iapply (holds_junk c); iexact H2
  iapply (holds_junk c); iexact H3

/-- Read a whole accumulator, of which the chunks' left halves are at hand. -/
theorem load_acc {α : Type} (c : Dev nD) (M : Memref sig .tc .vmem S256x512 .f32) {q : PosShare TreeShare} (v : Fin 4 → Blk (F := F))
    (hin : ∀ a, (![0, 0] : Fin 2 → ℕ) a + S256x512.size a ≤ S256x512.size a)
    {hl : M.view.LoadsAt (Rect.unit (s := S256x512) ![0, 0] S256x512.size hin).toLoadRect}
    {k : Vec F S256x512 .f32 → Prog (TpuEff nD τ sig (Elt F) Λ₀ .tc) α} {Q : α → sProp 𝕄} :
    holds c M q (stack v) ⊢ iprop((holds c M q (stack v) -∗ Runs c (k (stack v)) Q)
      -∗ Runs c (.op (.load M (Rect.unit (s := S256x512) ![0, 0] S256x512.size hin).toLoadRect hl) k) Q) := by
  suffices H : ∀ w, M.view.readAt (Elt F) (Rect.unit (s := S256x512) ![0, 0] S256x512.size hin).toLoadRect (M.view.rep (stack v)) = w →
      (holds c M q (stack v) ⊢ iprop((holds c M q (stack v) -∗ Runs c (k w) Q)
        -∗ Runs c (.op (.load M (Rect.unit (s := S256x512) ![0, 0] S256x512.size hin).toLoadRect hl) k) Q)) from H _ (by
    funext j
    show M.view.read (Elt F) (M.view.rep (stack v)) ((Rect.unit (s := S256x512) ![0, 0] S256x512.size hin).emb j) = stack v j
    rw [View.read_rep]
    congr 1
    funext a
    refine Fin.ext ?_
    rw [Rect.emb_apply]
    match a with
    | 0 => show 0 + 1 * (j 0).val = (j 0).val; omega
    | 1 => show 0 + 1 * (j 1).val = (j 1).val; omega)
  rintro w rfl
  exact wp_load 𝒱₀ (c : Thread nD τ) none Set.univ (m := M) (S := M.view.set) (q := q) (f := M.view.rep (stack v))
    (Finset.map_subset_map.mpr (Finset.subset_univ _))

/-! ## The landing buffer -/

theorem page_mem (s : Slot) (i : S24x64x512.Idx) : i ∈ (slotR s).set ↔ (i 0).val = s.val := by
  rw [Rect.mem_set_unit]
  have h1 : (i 1).val < 64 := (i 1).isLt
  have h2 : (i 2).val < 512 := (i 2).isLt
  constructor
  · intro h
    have h0 := h 0
    have a : s.val ≤ (i 0).val ∧ (i 0).val < s.val + 1 := h0
    omega
  · intro h a
    match a with
    | 0 => show s.val ≤ (i 0).val ∧ (i 0).val < s.val + 1; omega
    | 1 => show 0 ≤ (i 1).val ∧ (i 1).val < 0 + 64; omega
    | 2 => show 0 ≤ (i 2).val ∧ (i 2).val < 0 + 512; omega

theorem page_disjoint (s s' : Slot) (h : s ≠ s') : Disjoint (slotR s).set (slotR s').set :=
  Finset.disjoint_left.mpr fun i hi hi' => h (Fin.ext (((page_mem s i).mp hi).symm.trans ((page_mem s' i).mp hi')))

theorem slot_set (c : Dev nD) (s : Slot) : (slotM s).view.set = cover c lM (slotR s) := View.set_reshape _ _

theorem pages_all (c : Dev nD) : (Finset.univ.biUnion fun s => cover c lM (slotR s)) = Finset.univ := by
  ext i
  refine ⟨fun _ => Finset.mem_univ _, fun _ => Finset.mem_biUnion.mpr ⟨⟨(i 0).val, (i 0).isLt⟩, Finset.mem_univ _, ?_⟩⟩
  have e : cover c lM (slotR ⟨(i 0).val, (i 0).isLt⟩) = (slotR ⟨(i 0).val, (i 0).isLt⟩).set := View.set_slice_whole _ _
  rw [e]
  exact (page_mem _ i).mpr rfl

/-- The landing buffer, of any contents, is its slots. -/
theorem land_open (c : Dev nD) (f : Buf (Elt F) ((c : Thread nD τ).loc cc0_scratch2)) :
    ((c : Thread nD τ).loc cc0_scratch2 ↦{fullShare} f : sProp 𝕄) ⊢ bigSep Finset.univ fun s => slotAny c s := by
  have h := pointsTo_biUnion (ℓ := lM.view.loc (c : Thread nD τ)) (Ix := Unit) (Name := ℕ) (U := UU) (Lvl := ℕ) (q := fullShare) (f := f)
    Finset.univ (fun s => cover c lM (slotR s)) (fun s _ s' _ h => cover_disjoint c lM (page_disjoint s s' h))
  rw [pages_all] at h
  have g : ∀ s : Slot, (lM.view.loc (c : Thread nD τ) ↦[cover c lM (slotR s)]{fullShare} f : sProp 𝕄) ⊢ slotAny c s := fun s => by
    unfold slotAny
    rw [slot_set c s]
    iintro H
    iexists f
    iexact H
  exact (Entails.of_eq h).trans (bigSep_mono fun s _ => g s)

/-- The slots with what has landed are the landing buffer again. -/
theorem land_close (X : Inp (F := F)) (c : Dev nD) :
    bigSep Finset.univ (fun s => slotGot X c s) ⊢ (iprop(∃ f, (c : Thread nD τ).loc cc0_scratch2 ↦{fullShare} f) : sProp 𝕄) := by
  have h := pointsTo_biUnion_join (ℓ := lM.view.loc (c : Thread nD τ)) (Ix := Unit) (Name := ℕ) (U := UU) (Lvl := ℕ) (q := fullShare)
    Finset.univ (fun s => cover c lM (slotR s)) (fun s => (slotM s).view.rep (sent X (peer s c) s)) ((slotM 0).view.rep (sent X (peer 0 c) 0))
    (fun s _ s' _ h => cover_disjoint c lM (page_disjoint s s' h))
  rw [pages_all] at h
  have g : ∀ s : Slot, slotGot X c s = (lM.view.loc (c : Thread nD τ) ↦[cover c lM (slotR s)]{fullShare} (slotM s).view.rep (sent X (peer s c) s) : sProp 𝕄) :=
    fun s => by
      unfold slotGot slotAt
      rw [slot_set c s]
  rw [bigSep_congr fun s _ => g s]
  refine h.trans ?_
  iintro ⟨%g, -, H⟩
  iexists g
  iexact H

/-! ## The input -/

/-- The rows sent in the first stage, as eight rectangles: pipe A's and pipe B's. -/
def xWin (c : Dev nD) : Bool × Fin 4 → Rect S1024x512
  | (false, k) => sendAR c k
  | (true, k) => sendBR c k

theorem xWin_one (c : Dev nD) : ∀ t a, (xWin c t).stride a = 1
  | (false, _), _ => rfl
  | (true, _), _ => rfl

/-- The first row of each. -/
def xRow (c : Dev nD) : Bool × Fin 4 → ℕ
  | (false, k) => 64 * k.val + 256 - 256 * (c.val / 2)
  | (true, k) => 64 * k.val + 768 - 256 * (c.val % 2)

theorem xWin_mem (c : Dev nD) (t : Bool × Fin 4) (i : S1024x512.Idx) (h : i ∈ (xWin c t).set) : xRow c t ≤ (i 0).val ∧ (i 0).val < xRow c t + 64 := by
  obtain ⟨p, k⟩ := t
  cases p
  · have h0 := (Rect.mem_set_unit (inb := k0_off1_inb c k)).mp h 0
    rw [k0_off1_eq] at h0
    exact h0
  · have h0 := (Rect.mem_set_unit (inb := k0_off2_inb c k)).mp h 0
    rw [k0_off2_eq] at h0
    exact h0

theorem xRow_apart (c : Dev nD) : ∀ t t' : Bool × Fin 4, t ≠ t' → xRow c t + 64 ≤ xRow c t' ∨ xRow c t' + 64 ≤ xRow c t := by
  revert c; decide

theorem xWin_disjoint (c : Dev nD) (t t' : Bool × Fin 4) (h : t ≠ t') : Disjoint (xWin c t).set (xWin c t').set :=
  Finset.disjoint_left.mpr fun i hi hi' => by
    have a := xWin_mem c t i hi
    have b := xWin_mem c t' i hi'
    rcases xRow_apart c t t' h with e | e <;> omega

def xSent (c : Dev nD) : Finset (Idx (xM.view.loc (c : Thread nD τ))) := Finset.univ.biUnion fun t => cover c xM (xWin c t)

/-- The part of the travelling half that stays at home. -/
def xRest (X : Inp (F := F)) (c : Dev nD) : sProp 𝕄 := (c : Thread nD τ).loc cc0_stg0_0 ↦[Finset.univ \ xSent c]{fullShare.right} X c

theorem eight (Φ : Bool × Fin 4 → sProp 𝕄) : bigSep Finset.univ Φ
    = iprop(Φ (false, 0) ∗ Φ (false, 1) ∗ Φ (false, 2) ∗ Φ (false, 3) ∗ Φ (true, 0) ∗ Φ (true, 1) ∗ Φ (true, 2) ∗ Φ (true, 3)) := by
  rw [bigSep_univ_eq_bigSepL [(false, 0), (false, 1), (false, 2), (false, 3), (true, 0), (true, 1), (true, 2), (true, 3)] (by decide) (by decide)]
  rfl

/-- The input is the half that stays, and, of the other half, the eight sources and the rest. -/
theorem x_cut (X : Inp (F := F)) (c : Dev nD) : ((c : Thread nD τ).loc cc0_stg0_0 ↦{fullShare} X c : sProp 𝕄)
    ⊣⊢ iprop(xHeld X c ∗ xRest X c ∗ srcPts X c 0 ∗ srcPts X c 1 ∗ srcPts X c 2 ∗ srcPts X c 3
      ∗ srcPts X c 4 ∗ srcPts X c 5 ∗ srcPts X c 6 ∗ srcPts X c 7) := by
  have e : (xM.view.loc (c : Thread nD τ) ↦[xSent c]{fullShare.right} X c : sProp 𝕄)
      = iprop(srcPts X c 0 ∗ srcPts X c 1 ∗ srcPts X c 2 ∗ srcPts X c 3 ∗ srcPts X c 4 ∗ srcPts X c 5 ∗ srcPts X c 6 ∗ srcPts X c 7) := by
    have p := pieces (F := F) Finset.univ c xM (xWin c) (xWin_one c) (xWin_disjoint c) fullShare.right (xM.view.read (Elt F) (X c))
    rw [eight] at p
    refine Eq.trans ?_ (p.symm.trans rfl)
    refine pointsTo_congr fun i _ => ?_
    exact (View.rep_emb xM.view (xM.view.read (Elt F) (X c)) i).symm
  have s₁ := pointsTo_share (ℓ := xM.view.loc (c : Thread nD τ)) (Ix := Unit) (Name := ℕ) (U := UU) (Lvl := ℕ) (I := Finset.univ) (f := X c)
    (PosShare.mem_left_op_right fullShare)
  have s₂ := pointsTo_split_subset (ℓ := xM.view.loc (c : Thread nD τ)) (Ix := Unit) (Name := ℕ) (U := UU) (Lvl := ℕ) (q := fullShare.right) (f := X c)
    (Finset.subset_univ (xSent c))
  rw [e] at s₂
  constructor
  · iintro H
    ihave H := s₁.1 $$ H
    icases H with ⟨Hl, Hr⟩
    ihave Hr := s₂.1 $$ Hr
    icases Hr with ⟨Hs, Hrest⟩
    isplitl [Hl]; · unfold xHeld; iexact Hl
    isplitl [Hrest]; · unfold xRest; iexact Hrest
    iexact Hs
  · iintro ⟨Hl, Hrest, Hs⟩
    iapply s₁.2
    isplitl [Hl]; · unfold xHeld; iexact Hl
    iapply s₂.2
    isplitl [Hs]; · iexact Hs
    unfold xRest; iexact Hrest

end Cert.KernelIdeal.Run
-- ==== Proof.Result.lean ====
/-
The result buffer: `outV X c` is what device `c` ends with, and `written X c l` is the buffer with the rows of the list
`l` (pairs of a first row and a number of rows) already as they end.
-/
module

public import proofs.«01_k».proof.Proof.Pieces

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

/-- Device `c`'s result: each quarter of the rows has been reduced twice by itself or by a neighbour. -/
def outV (X : Inp (F := F)) (c : Dev nD) : Vec F S1024x512 .f32 := fun i =>
  let k : Fin 4 := ⟨(i 0).val % 256 / 64, by omega⟩
  let j : S64x512.Idx := ix2 ⟨(i 0).val % 64, Nat.mod_lt _ (by decide)⟩ ⟨(i 1).val, (i 1).isLt⟩
  if (i 0).val < 512 then red2A X (if (i 0).val / 256 = c.val / 2 then c else xn c) k j
  else red2B X (if ((i 0).val - 512) / 256 = c.val % 2 then c else yn c) k j

def written (X : Inp (F := F)) (c : Dev nD) (l : List (ℕ × ℕ)) : sProp 𝕄 :=
  iprop(∃ f : Buf (Elt F) ((c : Thread nD τ).loc cc0_stg1_0),
    ⌜∀ i : S1024x512.Idx, (∃ p ∈ l, p.1 ≤ (i 0).val ∧ (i 0).val < p.1 + p.2) → oM.view.read (Elt F) f i = outV X c i⌝
      ∗ (c : Thread nD τ).loc cc0_stg1_0 ↦{fullShare} f)

section Rules
variable {α : Type}

/-- A read of the result buffer, whatever it gives. -/
theorem load_out (X : Inp (F := F)) (c : Dev nD) {l : List (ℕ × ℕ)} (r : Rect S1024x512)
    {hl : oM.view.LoadsAt r.toLoadRect} {k : Vec F r.shape .f32 → Prog (TpuEff nD τ sig (Elt F) Λ₀ .tc) α} {Q : α → sProp 𝕄} :
    written X c l ⊢ iprop((∀ v, written X c l -∗ Runs c (k v) Q) -∗ Runs c (.op (.load oM r.toLoadRect hl) k) Q) := by
  unfold written
  iintro ⟨%f, %hf, H⟩
  iintro Hk
  iapply (wp_load_rect 𝒱₀ (c : Thread nD τ) none Set.univ (m := oM) (r := r) (S := Finset.univ) (q := fullShare) (f := f) (Finset.subset_univ _)) $$ [H]
  · iexact H
  iintro H
  iapply Hk
  iexists f
  isplitr; · ipureintro; exact hf
  iexact H

/-- Rows written as they end. -/
theorem store_out (X : Inp (F := F)) (c : Dev nD) {l : List (ℕ × ℕ)} (o n : ℕ) (off : Fin 2 → ℕ) (hoff : off = ![o, 0])
    (inb : ∀ a, off a + (![n, 512] : Fin 2 → ℕ) a ≤ S1024x512.size a)
    {w : Vec F (Rect.unit (s := S1024x512) off ![n, 512] inb).shape .f32}
    (hw : ∀ j, w j = outV X c ((Rect.unit (s := S1024x512) off ![n, 512] inb).emb j))
    {hx : (oM.access (Rect.unit (s := S1024x512) off ![n, 512] inb)).Stores Finset.univ}
    {hm : (Finset.univ : Finset (Rect.unit (s := S1024x512) off ![n, 512] inb).shape.Idx) = Finset.univ
      ∨ ∀ a, (Rect.unit (s := S1024x512) off ![n, 512] inb).stride a = 1}
    {k : PUnit → Prog (TpuEff nD τ sig (Elt F) Λ₀ .tc) α} {Q : α → sProp 𝕄} :
    written X c l ⊢ iprop((written X c ((o, n) :: l) -∗ Runs c (k ⟨⟩) Q)
      -∗ Runs c (.op (.store oM (Rect.unit (s := S1024x512) off ![n, 512] inb) w Finset.univ hx hm) k) Q) := by
  subst hoff
  unfold written
  iintro ⟨%f, %hf, H⟩
  iintro Hk
  iapply (wp_store 𝒱₀ (c : Thread nD τ) none Set.univ (m := oM) (r := Rect.unit (s := S1024x512) ![o, 0] ![n, 512] inb) (S := Finset.univ) (f := f)
    (Finset.subset_univ _)) $$ [H]
  · iexact H
  iintro H
  iapply Hk
  iexists _
  isplitr
  rotate_left
  · iexact H
  ipureintro
  intro i hi
  by_cases hm : i ∈ (Rect.unit (s := S1024x512) ![o, 0] ![n, 512] inb).set
  · rw [← Rect.map_emb_univ] at hm
    obtain ⟨j, -, rfl⟩ := Finset.mem_map.mp hm
    refine Eq.trans ?_ (hw j)
    exact congrFun (View.read_write_univ (v := oM.access (Rect.unit (s := S1024x512) ![o, 0] ![n, 512] inb)) f w) j
  · have e : oM.view.read (Elt F) ((oM.access (Rect.unit (s := S1024x512) ![o, 0] ![n, 512] inb)).write (Elt F) f w Finset.univ) i = oM.view.read (Elt F) f i := by
      refine View.write_of_not_mem _ _ _ ?_
      rw [show (oM.access (Rect.unit (s := S1024x512) ![o, 0] ![n, 512] inb)).setOn Finset.univ = (Rect.unit (s := S1024x512) ![o, 0] ![n, 512] inb).set from
        View.set_slice_whole _ _]
      exact hm
    rw [e]
    refine hf i ?_
    obtain ⟨p, hp, h⟩ := hi
    rcases List.mem_cons.mp hp with rfl | hp
    · refine absurd ((Rect.mem_set_unit (inb := inb)).mpr fun a => ?_) hm
      have h1 : (i 1).val < 512 := (i 1).isLt
      match a with
      | 0 => exact h
      | 1 => show 0 ≤ (i 1).val ∧ (i 1).val < 0 + 512; omega
    · exact ⟨p, hp, h⟩

end Rules

/-! ## What is written -/

section Values
variable (X : Inp (F := F)) (c : Dev nD)

/-- The result at an index given by its row and column. -/
theorem outV_upper (i : S1024x512.Idx) (p : Prop) [Decidable p] (hp : ((i 0).val / 256 = c.val / 2) ↔ p) (k : Fin 4) (j : S64x512.Idx) (h : (i 0).val < 512)
    (hk : (i 0).val % 256 / 64 = k.val) (h0 : (i 0).val % 64 = (j 0).val) (h1 : (i 1).val = (j 1).val) :
    outV X c i = red2A X (if p then c else xn c) k j := by
  unfold outV
  dsimp only
  rw [if_pos h]
  refine congr (congr (congrArg _ ?_) (Fin.ext hk)) (funext fun a => ?_)
  · by_cases h : p
    · rw [if_pos h, if_pos (hp.mpr h)]
    · rw [if_neg h, if_neg fun e => h (hp.mp e)]
  · match a with
    | 0 => exact Fin.ext h0
    | 1 => exact Fin.ext h1

theorem outV_lower (i : S1024x512.Idx) (p : Prop) [Decidable p] (hp : ((i 0).val - 512) / 256 = c.val % 2 ↔ p) (k : Fin 4) (j : S64x512.Idx) (h : ¬ (i 0).val < 512)
    (hk : (i 0).val % 256 / 64 = k.val) (h0 : (i 0).val % 64 = (j 0).val) (h1 : (i 1).val = (j 1).val) :
    outV X c i = red2B X (if p then c else yn c) k j := by
  unfold outV
  dsimp only
  rw [if_neg h]
  refine congr (congr (congrArg _ ?_) (Fin.ext hk)) (funext fun a => ?_)
  · by_cases h : p
    · rw [if_pos h, if_pos (hp.mpr h)]
    · rw [if_neg h, if_neg fun e => h (hp.mp e)]
  · match a with
    | 0 => exact Fin.ext h0
    | 1 => exact Fin.ext h1

theorem dev_lt : c.val < 4 := c.isLt

/-- A row and column of a rectangle of whole rows. -/
theorem rows_emb (o n : ℕ) (inb : ∀ a, (![o, 0] : Fin 2 → ℕ) a + (![n, 512] : Fin 2 → ℕ) a ≤ S1024x512.size a)
    (j : (Rect.unit (s := S1024x512) ![o, 0] ![n, 512] inb).shape.Idx) :
    (((Rect.unit (s := S1024x512) ![o, 0] ![n, 512] inb).emb j) 0).val = o + (j 0).val
      ∧ (((Rect.unit (s := S1024x512) ![o, 0] ![n, 512] inb).emb j) 1).val = (j 1).val := by
  constructor
  · rw [Rect.emb_apply]; show o + 1 * (j 0).val = _; omega
  · rw [Rect.emb_apply]; show 0 + 1 * (j 1).val = _; omega

/-- The rows a device reduced itself: pipe A's and pipe B's. -/
theorem own_rowsA (off : Fin 2 → ℕ) (hoff : off = ![256 * (c.val / 2), 0]) (inb : ∀ a, off a + (![256, 512] : Fin 2 → ℕ) a ≤ S1024x512.size a) :
    ∀ j, stack (red2A X c) j = outV X c ((Rect.unit (s := S1024x512) off ![256, 512] inb).emb j) := by
  subst hoff
  intro j
  obtain ⟨e0, e1⟩ := rows_emb _ _ inb j
  have h0 : (j 0).val < 256 := (j 0).isLt
  have hc := dev_lt c
  refine (outV_upper X c _ True ⟨fun _ => trivial, fun _ => by omega⟩ ⟨(j 0).val / 64, by omega⟩
    (ix2 ⟨(j 0).val % 64, Nat.mod_lt _ (by decide)⟩ ⟨(j 1).val, (j 1).isLt⟩) (by omega) (by dsimp only; omega) (by show _ = (j 0).val % 64; omega) e1).symm

theorem own_rowsB (off : Fin 2 → ℕ) (hoff : off = ![256 * (c.val % 2) + 512, 0]) (inb : ∀ a, off a + (![256, 512] : Fin 2 → ℕ) a ≤ S1024x512.size a) :
    ∀ j, stack (red2B X c) j = outV X c ((Rect.unit (s := S1024x512) off ![256, 512] inb).emb j) := by
  subst hoff
  intro j
  obtain ⟨e0, e1⟩ := rows_emb _ _ inb j
  have h0 : (j 0).val < 256 := (j 0).isLt
  have hc := dev_lt c
  refine (outV_lower X c _ True ⟨fun _ => trivial, fun _ => by omega⟩ ⟨(j 0).val / 64, by omega⟩
    (ix2 ⟨(j 0).val % 64, Nat.mod_lt _ (by decide)⟩ ⟨(j 1).val, (j 1).isLt⟩) (by omega) (by dsimp only; omega) (by show _ = (j 0).val % 64; omega) e1).symm

/-- The rows a neighbour reduced: chunk `k` of pipe A and of pipe B. -/
theorem got_rowsA (k : Fin 4) (off : Fin 2 → ℕ) (hoff : off = ![64 * k.val + 256 - 256 * (c.val / 2), 0])
    (inb : ∀ a, off a + (![64, 512] : Fin 2 → ℕ) a ≤ S1024x512.size a) :
    ∀ j, red2A X (xn c) k j = outV X c ((Rect.unit (s := S1024x512) off ![64, 512] inb).emb j) := by
  subst hoff
  intro j
  obtain ⟨e0, e1⟩ := rows_emb _ _ inb j
  have h0 : (j 0).val < 64 := (j 0).isLt
  have hc := dev_lt c
  have hk := k.isLt
  exact (outV_upper X c _ False ⟨fun e => by omega, False.elim⟩ k j (by omega) (by omega) (by omega) e1).symm

theorem got_rowsB (k : Fin 4) (off : Fin 2 → ℕ) (hoff : off = ![64 * k.val + 768 - 256 * (c.val % 2), 0])
    (inb : ∀ a, off a + (![64, 512] : Fin 2 → ℕ) a ≤ S1024x512.size a) :
    ∀ j, red2B X (yn c) k j = outV X c ((Rect.unit (s := S1024x512) off ![64, 512] inb).emb j) := by
  subst hoff
  intro j
  obtain ⟨e0, e1⟩ := rows_emb _ _ inb j
  have h0 : (j 0).val < 64 := (j 0).isLt
  have hc := dev_lt c
  have hk := k.isLt
  exact (outV_lower X c _ False ⟨fun e => by omega, False.elim⟩ k j (by omega) (by omega) (by omega) e1).symm

/-- First rows of the ten stores, last first. -/
def rowsA (k : ℕ) : ℕ × ℕ := (64 * k + 256 - 256 * (c.val / 2), 64)
def rowsB (k : ℕ) : ℕ × ℕ := (64 * k + 768 - 256 * (c.val % 2), 64)
def mineA : ℕ × ℕ := (256 * (c.val / 2), 256)
def mineB : ℕ × ℕ := (256 * (c.val % 2) + 512, 256)

variable {α : Type}

theorem store_mineA {l : List (ℕ × ℕ)} {w : Vec F S256x512 .f32} (hw : w = stack (red2A X c))
    {hx : (oM.access (Rect.unit (s := S1024x512) (k0_off5 c) S256x512.size (k0_off5_inb c))).Stores Finset.univ}
    {hm : (Finset.univ : Finset (Rect.unit (s := S1024x512) (k0_off5 c) S256x512.size (k0_off5_inb c)).shape.Idx) = Finset.univ
      ∨ ∀ a, (Rect.unit (s := S1024x512) (k0_off5 c) S256x512.size (k0_off5_inb c)).stride a = 1}
    {p : PUnit → Prog (TpuEff nD τ sig (Elt F) Λ₀ .tc) α} {Q : α → sProp 𝕄} :
    written X c l ⊢ iprop((written X c (mineA c :: l) -∗ Runs c (p ⟨⟩) Q)
      -∗ Runs c (.op (.store oM (Rect.unit (s := S1024x512) (k0_off5 c) S256x512.size (k0_off5_inb c)) w Finset.univ hx hm) p) Q) := by
  subst hw
  exact store_out X c _ 256 _ (k0_off5_eq c) (k0_off5_inb c) (own_rowsA X c _ (k0_off5_eq c) _)

theorem store_mineB {l : List (ℕ × ℕ)} {w : Vec F S256x512 .f32} (hw : w = stack (red2B X c))
    {hx : (oM.access (Rect.unit (s := S1024x512) (k0_off6 c) S256x512.size (k0_off6_inb c))).Stores Finset.univ}
    {hm : (Finset.univ : Finset (Rect.unit (s := S1024x512) (k0_off6 c) S256x512.size (k0_off6_inb c)).shape.Idx) = Finset.univ
      ∨ ∀ a, (Rect.unit (s := S1024x512) (k0_off6 c) S256x512.size (k0_off6_inb c)).stride a = 1}
    {p : PUnit → Prog (TpuEff nD τ sig (Elt F) Λ₀ .tc) α} {Q : α → sProp 𝕄} :
    written X c l ⊢ iprop((written X c (mineB c :: l) -∗ Runs c (p ⟨⟩) Q)
      -∗ Runs c (.op (.store oM (Rect.unit (s := S1024x512) (k0_off6 c) S256x512.size (k0_off6_inb c)) w Finset.univ hx hm) p) Q) := by
  subst hw
  exact store_out X c _ 256 _ (k0_off6_eq c) (k0_off6_inb c) (own_rowsB X c _ (k0_off6_eq c) _)

theorem store_gotA (k : Fin 4) {l : List (ℕ × ℕ)} {w : Vec F S64x512 .f32} (hw : w = red2A X (xn c) k)
    {hx : (oM.access (Rect.unit (s := S1024x512) (k0_off7 c (BitVec.ofNat 32 (64 * k.val))) S64x512.size (k0_off7_inb c k))).Stores Finset.univ}
    {hm : (Finset.univ : Finset (Rect.unit (s := S1024x512) (k0_off7 c (BitVec.ofNat 32 (64 * k.val))) S64x512.size (k0_off7_inb c k)).shape.Idx) = Finset.univ
      ∨ ∀ a, (Rect.unit (s := S1024x512) (k0_off7 c (BitVec.ofNat 32 (64 * k.val))) S64x512.size (k0_off7_inb c k)).stride a = 1}
    {p : PUnit → Prog (TpuEff nD τ sig (Elt F) Λ₀ .tc) α} {Q : α → sProp 𝕄} :
    written X c l ⊢ iprop((written X c (rowsA c k.val :: l) -∗ Runs c (p ⟨⟩) Q)
      -∗ Runs c (.op (.store oM (Rect.unit (s := S1024x512) (k0_off7 c (BitVec.ofNat 32 (64 * k.val))) S64x512.size (k0_off7_inb c k)) w Finset.univ hx hm) p) Q) := by
  subst hw
  exact store_out X c _ 64 _ (k0_off7_eq c k) (k0_off7_inb c k) (got_rowsA X c k _ (k0_off7_eq c k) _)

theorem store_gotB (k : Fin 4) {l : List (ℕ × ℕ)} {w : Vec F S64x512 .f32} (hw : w = red2B X (yn c) k)
    {hx : (oM.access (Rect.unit (s := S1024x512) (k0_off8 c (BitVec.ofNat 32 (64 * k.val))) S64x512.size (k0_off8_inb c k))).Stores Finset.univ}
    {hm : (Finset.univ : Finset (Rect.unit (s := S1024x512) (k0_off8 c (BitVec.ofNat 32 (64 * k.val))) S64x512.size (k0_off8_inb c k)).shape.Idx) = Finset.univ
      ∨ ∀ a, (Rect.unit (s := S1024x512) (k0_off8 c (BitVec.ofNat 32 (64 * k.val))) S64x512.size (k0_off8_inb c k)).stride a = 1}
    {p : PUnit → Prog (TpuEff nD τ sig (Elt F) Λ₀ .tc) α} {Q : α → sProp 𝕄} :
    written X c l ⊢ iprop((written X c (rowsB c k.val :: l) -∗ Runs c (p ⟨⟩) Q)
      -∗ Runs c (.op (.store oM (Rect.unit (s := S1024x512) (k0_off8 c (BitVec.ofNat 32 (64 * k.val))) S64x512.size (k0_off8_inb c k)) w Finset.univ hx hm) p) Q) := by
  subst hw
  exact store_out X c _ 64 _ (k0_off8_eq c k) (k0_off8_inb c k) (got_rowsB X c k _ (k0_off8_eq c k) _)

/-- The ten stores cover the result. -/
theorem rows_all (r : ℕ) (hr : r < 1024) : ∃ p ∈ [rowsB c 3, rowsA c 3, rowsB c 2, rowsA c 2, rowsB c 1, rowsA c 1, rowsB c 0, rowsA c 0, mineB c, mineA c],
    p.1 ≤ r ∧ r < p.1 + p.2 := by
  have hc := dev_lt c
  by_contra h
  have q : ∀ p ∈ [rowsB c 3, rowsA c 3, rowsB c 2, rowsA c 2, rowsB c 1, rowsA c 1, rowsB c 0, rowsA c 0, mineB c, mineA c], ¬(p.1 ≤ r ∧ r < p.1 + p.2) :=
    fun p hp hh => h ⟨p, hp, hh⟩
  simp only [List.forall_mem_cons, rowsA, rowsB, mineA, mineB] at q
  omega

theorem written_none (f : Buf (Elt F) ((c : Thread nD τ).loc cc0_stg1_0)) : ((c : Thread nD τ).loc cc0_stg1_0 ↦{fullShare} f : sProp 𝕄) ⊢ written X c [] := by
  unfold written
  iintro H
  iexists f
  isplitr
  · ipureintro
    rintro i ⟨p, hp, -⟩
    exact absurd hp List.not_mem_nil
  iexact H

theorem written_all : written X c [rowsB c 3, rowsA c 3, rowsB c 2, rowsA c 2, rowsB c 1, rowsA c 1, rowsB c 0, rowsA c 0, mineB c, mineA c]
    ⊢ ((c : Thread nD τ).loc cc0_stg1_0 ↦{fullShare} outV X c : sProp 𝕄) := by
  unfold written
  iintro ⟨%f, %hf, H⟩
  have e : f = outV X c := funext fun i => hf i (rows_all c _ (i 0).isLt)
  subst e
  iexact H

end Values

end Cert.KernelIdeal.Run
-- ==== Proof.Enter.lean ====
/-
The entry of the kernel: each device signals both neighbours, handing them the slots of its landing buffer they write,
and waits for both, which gives it the slots it will write itself.
-/
module

public import proofs.«01_k».proof.Proof.Result

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

/-- The order of the transfers. -/
abbrev ord : List Slot := [0, 4, 1, 5, 2, 6, 3, 7, 8, 12, 9, 13, 10, 14, 11, 15, 16, 20, 17, 21, 18, 22, 19, 23]

theorem ord_nodup : ord.Nodup := by decide
theorem ord_univ : ord.toFinset = Finset.univ := by decide

theorem chain_ord (Φ : Slot → sProp 𝕄) : chain Φ ord = bigSep Finset.univ Φ := by rw [chain_eq Φ ord ord_nodup, ord_univ]

/-- A slot's tokens before the barrier. -/
def ready (c : Dev nD) (s : Slot) : sProp 𝕄 :=
  iprop(dutyTok ER (sendCell c s) 0 false ∗ dutyTok ER (recvCell (peer s c) s) 0 false ∗ atPos ER (sendCell c s) 0 ∅ 0)

/-- With the slots themselves, they are ready to be sent. -/
theorem ready_todo (c : Dev nD) :
    iprop(bigSep Finset.univ (ready c) ∗ bigSep Finset.univ fun s : Slot => slotAny (peer s c) s) ⊢ (chain (todo c) ord : sProp 𝕄) := by
  rw [chain_ord, ← bigSep_sep']
  suffices H : ∀ s, iprop(ready c s ∗ slotAny (peer s c) s) ⊢ (todo c s : sProp 𝕄) from bigSep_mono fun s _ => H s
  intro s
  unfold ready todo
  iintro ⟨⟨H1, H2, H3⟩, H4⟩
  isplitl [H1]; · iexact H1
  isplitl [H2]; · iexact H2
  isplitl [H4]; · iexact H4
  iexact H3

/-- What a device owes at the start: its two signals and all its transfers. -/
def owed₁ (c : Dev nD) : CellTallies nD τ sig Unit := owedL c ord + tallyAt (barCell (yn c)) () 1
def owed₀ (c : Dev nD) : CellTallies nD τ sig Unit := owed₁ c + tallyAt (barCell (xn c)) () 1

variable (X : Inp (F := F)) (K : Dev nD × Cix → ℕ) (c : Dev nD)

/-- What a device starts with. -/
def entry : sProp 𝕄 :=
  iprop(records X K ∗ levAts L lv ∗ (∃ W, owes (c : Thread nD τ) (owed₀ c) W) ∗ dutyTok ER (barCell (xn c)) 0 false ∗ dutyTok ER (barCell (yn c)) 0 true
    ∗ atPos ER (barCell c) 0 ∅ 0 ∗ cred (tallyAt (barCell c) () 2) ∗ bigSep Finset.univ (ready c) ∗ bigSep Finset.univ (landing c)
    ∗ bigSep Finset.univ (slotAny c))

theorem dev1_eq : (⟨k0_dev1 c, k0_dev1_lt c⟩ : Dev nD) = xn c := Fin.ext ((k0_dev1_eq c).trans (xn_val c).symm)
theorem dev2_eq : (⟨k0_dev2 c, k0_dev2_lt c⟩ : Dev nD) = yn c := Fin.ext ((k0_dev2_eq c).trans (yn_val c).symm)

/-- The slots handed out with the two signals. -/
theorem pay_x : bigSep xSlots (slotAny c) ⊢ (Rd X).payload (barCell (xn c)) 0 false := by
  rw [payload_bar]
  show bigSep xSlots (slotAny c) ⊢ bigSep xSlots fun s => slotAny (xn (xn c)) s
  rw [xn_xn]
theorem pay_y : bigSep ySlots (slotAny c) ⊢ (Rd X).payload (barCell (yn c)) 0 true := by
  rw [payload_bar]
  show bigSep ySlots (slotAny c) ⊢ bigSep ySlots fun s => slotAny (yn (yn c)) s
  rw [yn_yn]

theorem part1 {Φ : _ → sProp 𝕄} :
    entry X K c ⊢ iprop((iprop(core X K c ord [] ord [] [] ∗ semVal (barCell c) 0) -∗ ∀ v2 v5 v6 v7 v25 v26, Φ ⟨c, v2, v5, v6, v7, v25, v26⟩)
      -∗ Runs c (k0_part1 xM (Memref.isWhole_whole _) oM (Memref.isWhole_whole _) aM (Memref.isWhole_whole _) bM (Memref.isWhole_whole _)
        lM (Memref.isWhole_whole _) cc0_scratch3 cc0_scratch4) Φ) := by
  rw [k0_part1_eq_skeleton]
  unfold k0_part1_skel
  simp only [semSignalWord, semWaitWord, Prog.lift, Prog.bind_op, Prog.bind_ret, Prog.pure_eq_ret, wp_deviceId, dev1_eq c, dev2_eq c]
  unfold entry
  rw [show bigSep Finset.univ (slotAny (F := F) c) = iprop(bigSep xSlots (slotAny c) ∗ bigSep ySlots (slotAny c)) from bigSep_filter_split Finset.univ _]
  iintro ⟨#HR, #Hlev, ⟨%W, HO⟩, Htx, Hty, Hat, Hc, Hready, Hland, Hsx, Hsy⟩
  iintro Hk
  ihave Hi1 := (records_at X K (xn c, none)) $$ HR
  icases Hi1 with ⟨#HIx, #Hrx⟩
  ihave Hi2 := (records_at X K (yn c, none)) $$ HR
  icases Hi2 with ⟨#HIy, #Hry⟩
  ihave Hi3 := (records_at X K (c, none)) $$ HR
  icases Hi3 with ⟨#HI, #Hr⟩
  unfold owed₀
  iapply (Rounds.wp_signal 𝒱₀ ER (Rd X) (c : Thread nD τ) none (dst := (xn c : Thread nD τ)) (κ := K (xn c, none))
      (d := false) (by rw [duties_bar]; exact Finset.mem_univ _) ((amount_bar X (xn c) false).trans (by decide)) () (owed₁ c) rfl) $$ [HO Htx Hsx]
  · isplitr; · iexact HIx
    isplitl [HO]; · iexact HO
    isplitl [Htx]; · iexact Htx
    isplitl [Hsx]
    · iapply (pay_x X c)
      iexact Hsx
    iexact Hrx
  iintro HO
  unfold owed₁
  iapply (Rounds.wp_signal 𝒱₀ ER (Rd X) (c : Thread nD τ) none (dst := (yn c : Thread nD τ)) (κ := K (yn c, none))
      (d := true) (by rw [duties_bar]; exact Finset.mem_univ _) ((amount_bar X (yn c) true).trans (by decide)) () (owedL c ord) rfl) $$ [HO Hty Hsy]
  · isplitr; · iexact HIy
    isplitl [HO]; · iexact HO
    isplitl [Hty]; · iexact Hty
    isplitl [Hsy]
    · iapply (pay_y X c)
      iexact Hsy
    iexact Hry
  iintro HO
  iapply (Rounds.wp_wait_rest_token 𝒱₀ ER (Rd X) (c : Thread nD τ) none (κ := K (c, none))
      (wpE_semWait_eq 𝒱₀ (c : Thread nD τ) none Set.univ) (Set.mem_univ _) () (O := owedL c ord) (W := W) (R := 0) (m := 0) (T := ∅)
      (by rw [expect_bar]; decide)) $$ [Hc HO Hat]
  · isplitr; · iexact HI
    isplitl [Hc]; · iexact Hc
    isplitl [HO]; · iexact HO
    isplitr
    · iapply (mayWait_list c (.reg barS) ord (fun t _ => Nat.lt_of_lt_of_le (Nat.lt_succ_self 1) (Nat.le_add_right 2 _)))
      iexact Hlev
    iexact Hat
  iintro ⟨HO, Hat, -, Hpay⟩
  ihave Hp := (Entails.of_eq (rest_bar X c)) $$ Hpay
  imod (Rounds.cell_close ER (Rd X) (Set.mem_univ (K (c, none))) (fun h => h) (R := 0 + 1) (duties_later X (barCell c))) $$ [Hat] with Hz
  · isplitr; · iexact HI
    iexact Hat
  iapply (runs_ret c)
  ihave Hk := Hk $$ [HO Hready Hp Hland Hz]
  · isplitr [Hz]
    · unfold core
      isplitr; · iexact HR
      isplitr; · iexact Hlev
      isplitl [HO]; · iexists _; iexact HO
      isplitl [Hready Hp]
      · iapply (ready_todo c)
        isplitl [Hready]; · iexact Hready
        iexact Hp
      isplitr; · iempintro
      isplitl [Hland]; · rw [chain_ord]; iexact Hland
      isplitr; · iempintro
      iempintro
    iexact Hz
  iapply Hk

end Cert.KernelIdeal.Run
-- ==== Proof.Parts.lean ====
/-
The kernel's straight line, part by part. Each part says what it takes up and what it leaves, at whatever lists of
transfers are before and behind it: it sends the slots at the head of `ls`, closes those at the heads of `lf` and `lr`.
-/
module

public import proofs.«01_k».proof.Proof.Enter

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (X : Inp (F := F)) (K : Dev nD × Cix → ℕ) (c : Dev nD)

/-! ## The neighbours, as the program numbers them -/

theorem dev3_eq : (⟨k0_dev3 c, k0_dev3_lt c⟩ : Dev nD) = xn c := Fin.ext ((k0_dev3_eq c).trans (xn_val c).symm)
theorem dev4_eq : (⟨k0_dev4 c, k0_dev4_lt c⟩ : Dev nD) = yn c := Fin.ext ((k0_dev4_eq c).trans (yn_val c).symm)
theorem dev5_eq : (⟨k0_dev5 c, k0_dev5_lt c⟩ : Dev nD) = xn c := Fin.ext ((k0_dev5_eq c).trans (xn_val c).symm)
theorem dev6_eq : (⟨k0_dev6 c, k0_dev6_lt c⟩ : Dev nD) = yn c := Fin.ext ((k0_dev6_eq c).trans (yn_val c).symm)
theorem dev7_eq : (⟨k0_dev7 c, k0_dev7_lt c⟩ : Dev nD) = xn c := Fin.ext ((k0_dev7_eq c).trans (xn_val c).symm)
theorem dev8_eq : (⟨k0_dev8 c, k0_dev8_lt c⟩ : Dev nD) = yn c := Fin.ext ((k0_dev8_eq c).trans (yn_val c).symm)
theorem dev9_eq : (⟨k0_dev9 c, k0_dev9_lt c⟩ : Dev nD) = xn c := Fin.ext ((k0_dev9_eq c).trans (xn_val c).symm)
theorem dev10_eq : (⟨k0_dev10 c, k0_dev10_lt c⟩ : Dev nD) = yn c := Fin.ext ((k0_dev10_eq c).trans (yn_val c).symm)
theorem dev11_eq : (⟨k0_dev11 c, k0_dev11_lt c⟩ : Dev nD) = yn c := Fin.ext ((k0_dev11_eq c).trans (yn_val c).symm)
theorem dev12_eq : (⟨k0_dev12 c, k0_dev12_lt c⟩ : Dev nD) = xn c := Fin.ext ((k0_dev12_eq c).trans (xn_val c).symm)
theorem dev13_eq : (⟨k0_dev13 c, k0_dev13_lt c⟩ : Dev nD) = yn c := Fin.ext ((k0_dev13_eq c).trans (yn_val c).symm)
theorem dev14_eq : (⟨k0_dev14 c, k0_dev14_lt c⟩ : Dev nD) = xn c := Fin.ext ((k0_dev14_eq c).trans (xn_val c).symm)
theorem dev15_eq : (⟨k0_dev15 c, k0_dev15_lt c⟩ : Dev nD) = yn c := Fin.ext ((k0_dev15_eq c).trans (yn_val c).symm)
theorem dev16_eq : (⟨k0_dev16 c, k0_dev16_lt c⟩ : Dev nD) = xn c := Fin.ext ((k0_dev16_eq c).trans (xn_val c).symm)
theorem dev17_eq : (⟨k0_dev17 c, k0_dev17_lt c⟩ : Dev nD) = yn c := Fin.ext ((k0_dev17_eq c).trans (yn_val c).symm)
theorem dev18_eq : (⟨k0_dev18 c, k0_dev18_lt c⟩ : Dev nD) = xn c := Fin.ext ((k0_dev18_eq c).trans (xn_val c).symm)
theorem dev19_eq : (⟨k0_dev19 c, k0_dev19_lt c⟩ : Dev nD) = xn c := Fin.ext ((k0_dev19_eq c).trans (xn_val c).symm)
theorem dev20_eq : (⟨k0_dev20 c, k0_dev20_lt c⟩ : Dev nD) = yn c := Fin.ext ((k0_dev20_eq c).trans (yn_val c).symm)
theorem dev21_eq : (⟨k0_dev21 c, k0_dev21_lt c⟩ : Dev nD) = xn c := Fin.ext ((k0_dev21_eq c).trans (xn_val c).symm)
theorem dev22_eq : (⟨k0_dev22 c, k0_dev22_lt c⟩ : Dev nD) = yn c := Fin.ext ((k0_dev22_eq c).trans (yn_val c).symm)
theorem dev23_eq : (⟨k0_dev23 c, k0_dev23_lt c⟩ : Dev nD) = xn c := Fin.ext ((k0_dev23_eq c).trans (xn_val c).symm)
theorem dev24_eq : (⟨k0_dev24 c, k0_dev24_lt c⟩ : Dev nD) = yn c := Fin.ext ((k0_dev24_eq c).trans (yn_val c).symm)
theorem dev25_eq : (⟨k0_dev25 c, k0_dev25_lt c⟩ : Dev nD) = xn c := Fin.ext ((k0_dev25_eq c).trans (xn_val c).symm)
theorem dev26_eq : (⟨k0_dev26 c, k0_dev26_lt c⟩ : Dev nD) = yn c := Fin.ext ((k0_dev26_eq c).trans (yn_val c).symm)

theorem below_cons {n : ℕ} {s : Slot} {l : List Slot} (hs : n < s.val / 8) (h : ∀ t ∈ l, n < t.val / 8) : ∀ t ∈ s :: l, n < t.val / 8 :=
  fun t ht => by
    rcases List.mem_cons.mp ht with rfl | ht
    · exact hs
    · exact h t ht

/-! ## The parts -/

variable {ls lf lr ds dr : List Slot}

set_option maxRecDepth 10000

theorem part2 {v2 : BitVec 32} {v5 : BitVec 32} {v6 : BitVec 32} {v7 : BitVec 32} {v25 : BitVec 32} {v26 : BitVec 32} {Φ : _ → sProp 𝕄} :
    iprop(core X K c (0 :: 4 :: ls) lf lr ds dr
      ∗ srcPts X c 0
      ∗ srcPts X c 4)
      ⊢ iprop((core X K c ls (lf ++ [0] ++ [4]) lr ds dr -∗ Φ ⟨⟩)
        -∗ Runs c (k0_part2 xM (Memref.isWhole_whole _) oM (Memref.isWhole_whole _) aM (Memref.isWhole_whole _) bM (Memref.isWhole_whole _)
        lM (Memref.isWhole_whole _) cc0_scratch3 cc0_scratch4 c v2 v5 v6 v7 v25 v26) Φ) := by
  rw [k0_part2_eq_skeleton]
  unfold k0_part2_skel
  simp only [Prog.lift, Prog.bind_op, Prog.bind_ret, Prog.pure_eq_ret]
  iintro ⟨HC, HS0, HS4⟩
  iintro Hk
  iapply (send_piece X K c 0 (P := srcPts X c 0) rfl (dev3_eq c) rfl rfl (sendSem_eq 0) (recvSem_eq 0)) $$ [HC HS0]
  · isplitl [HC]; · iexact HC
    iexact HS0
  iintro HC
  iapply (send_piece X K c 4 (P := srcPts X c 4) rfl (dev4_eq c) rfl rfl (sendSem_eq 4) (recvSem_eq 4)) $$ [HC HS4]
  · isplitl [HC]; · iexact HC
    iexact HS4
  iintro HC
  iapply (runs_ret c)
  ihave Hk := Hk $$ [HC]
  · iexact HC
  iapply Hk

theorem part3 {v2 : BitVec 32} {v5 : BitVec 32} {v6 : BitVec 32} {v7 : BitVec 32} {Φ : _ → sProp 𝕄} :
    iprop(core X K c (1 :: 5 :: ls) lf lr ds dr
      ∗ srcPts X c 1
      ∗ srcPts X c 5)
      ⊢ iprop((core X K c ls (lf ++ [1] ++ [5]) lr ds dr -∗ Φ ⟨⟩)
        -∗ Runs c (k0_part3 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part3_eq_skeleton]
  unfold k0_part3_skel
  simp only [Prog.lift, Prog.bind_op, Prog.bind_ret, Prog.pure_eq_ret]
  iintro ⟨HC, HS1, HS5⟩
  iintro Hk
  iapply (send_piece X K c 1 (P := srcPts X c 1) rfl (dev5_eq c) rfl rfl (sendSem_eq 1) (recvSem_eq 1)) $$ [HC HS1]
  · isplitl [HC]; · iexact HC
    iexact HS1
  iintro HC
  iapply (send_piece X K c 5 (P := srcPts X c 5) rfl (dev6_eq c) rfl rfl (sendSem_eq 5) (recvSem_eq 5)) $$ [HC HS5]
  · isplitl [HC]; · iexact HC
    iexact HS5
  iintro HC
  iapply (runs_ret c)
  ihave Hk := Hk $$ [HC]
  · iexact HC
  iapply Hk

theorem part4 {v2 : BitVec 32} {v5 : BitVec 32} {v6 : BitVec 32} {v7 : BitVec 32} {Φ : _ → sProp 𝕄} :
    iprop(core X K c (2 :: 6 :: 3 :: ls) lf lr ds dr
      ∗ srcPts X c 2
      ∗ srcPts X c 6
      ∗ srcPts X c 3)
      ⊢ iprop((core X K c ls (lf ++ [2] ++ [6] ++ [3]) lr ds dr -∗ Φ ⟨⟩)
        -∗ Runs c (k0_part4 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part4_eq_skeleton]
  unfold k0_part4_skel
  simp only [Prog.lift, Prog.bind_op, Prog.bind_ret, Prog.pure_eq_ret]
  iintro ⟨HC, HS2, HS6, HS3⟩
  iintro Hk
  iapply (send_piece X K c 2 (P := srcPts X c 2) rfl (dev7_eq c) rfl rfl (sendSem_eq 2) (recvSem_eq 2)) $$ [HC HS2]
  · isplitl [HC]; · iexact HC
    iexact HS2
  iintro HC
  iapply (send_piece X K c 6 (P := srcPts X c 6) rfl (dev8_eq c) rfl rfl (sendSem_eq 6) (recvSem_eq 6)) $$ [HC HS6]
  · isplitl [HC]; · iexact HC
    iexact HS6
  iintro HC
  iapply (send_piece X K c 3 (P := srcPts X c 3) rfl (dev9_eq c) rfl rfl (sendSem_eq 3) (recvSem_eq 3)) $$ [HC HS3]
  · isplitl [HC]; · iexact HC
    iexact HS3
  iintro HC
  iapply (runs_ret c)
  ihave Hk := Hk $$ [HC]
  · iexact HC
  iapply Hk

theorem part5 {v2 : BitVec 32} {v5 : BitVec 32} {v6 : BitVec 32} {v7 : BitVec 32} (h : ∀ t ∈ ls, 0 < t.val / 8) {Φ : _ → sProp 𝕄} :
    iprop(core X K c (7 :: ls) (0 :: lf) (0 :: lr) ds dr
      ∗ srcPts X c 7
      ∗ xHeld X c)
      ⊢ iprop((iprop(core X K c ls (lf ++ [7]) lr (0 :: ds) (0 :: dr) ∗ srcPts X c 0 ∗ slotGot X c 0 ∗ xHeld X c) -∗ Φ (keepA X c 0))
        -∗ Runs c (k0_part5 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part5_eq_skeleton]
  unfold k0_part5_skel
  simp only [Prog.lift, Prog.bind_op, Prog.bind_ret, Prog.pure_eq_ret]
  iintro ⟨HC, HS7, Hx⟩
  iintro Hk
  iapply (send_piece X K c 7 (P := srcPts X c 7) rfl (dev10_eq c) rfl rfl (sendSem_eq 7) (recvSem_eq 7)) $$ [HC HS7]
  · isplitl [HC]; · iexact HC
    iexact HS7
  iintro HC
  iapply (sent_piece X K c 0 (P := srcPts X c 0) rfl rfl (sendSem_eq 0)) $$ [HC]; · iexact HC
  iintro ⟨HC, HS0⟩
  iapply (step_recv X K c 0 h rfl (recvSem_eq 0)) $$ [HC]; · iexact HC
  iintro ⟨HC, HL0⟩
  iapply (load_keepA X c 0) $$ [Hx]; · iexact Hx
  iintro Hx
  iapply (runs_ret c)
  ihave Hk := Hk $$ [HC HS0 HL0 Hx]
  · isplitl [HC]; · iexact HC
    isplitl [HS0]; · iexact HS0
    isplitl [HL0]; · iexact HL0
    iexact Hx
  iapply Hk

theorem part6 {v2 : BitVec 32} {v7 : BitVec 32} {Φ : _ → sProp 𝕄} :
    iprop(core X K c (8 :: ls) (4 :: lf) lr ds dr
      ∗ slotGot X c 0
      ∗ junk c (aSl 0))
      ⊢ iprop((iprop(core X K c ls (lf ++ [8]) lr (4 :: ds) dr ∗ slotGot X c 0 ∗ srcPts X c 4) -∗ Φ ⟨⟩)
        -∗ Runs c (k0_part6 xM (Memref.isWhole_whole _) oM (Memref.isWhole_whole _) aM (Memref.isWhole_whole _) bM (Memref.isWhole_whole _)
        lM (Memref.isWhole_whole _) cc0_scratch3 cc0_scratch4 c v2 v7 (keepA X c 0)) Φ) := by
  rw [k0_part6_eq_skeleton]
  unfold k0_part6_skel
  simp only [Prog.lift, Prog.bind_op, Prog.bind_ret, Prog.pure_eq_ret]
  iintro ⟨HC, HL0, HA0⟩
  iintro Hk
  iapply (load_slot X c 0) $$ [HL0]; · iexact HL0
  iintro HL0
  iapply (load_junk c (chunkR 0) (fun _ => rfl)) $$ [HA0]; · iexact HA0
  iintro %_ HA0
  iapply (store_piece c (chunkR 0) (fun _ => rfl) (v := red1A X c 0) (sum_page _ _ _ _ _ _)) $$ [HA0]; · iexact HA0
  iintro HA0
  iapply (send_piece X K c 8 (P := holds c (aSl 0) fullShare (red1A X c 0)) rfl (dev11_eq c) rfl rfl (sendSem_eq 8) (recvSem_eq 8)) $$ [HC HA0]
  · isplitl [HC]; · iexact HC
    iexact HA0
  iintro HC
  iapply (sent_piece X K c 4 (P := srcPts X c 4) rfl rfl (sendSem_eq 4)) $$ [HC]; · iexact HC
  iintro ⟨HC, HS4⟩
  iapply (runs_ret c)
  ihave Hk := Hk $$ [HC HL0 HS4]
  · isplitl [HC]; · iexact HC
    isplitl [HL0]; · iexact HL0
    iexact HS4
  iapply Hk

theorem part7 {v5 : BitVec 32} {v6 : BitVec 32} (h : ∀ t ∈ ls, 0 < t.val / 8) {Φ : _ → sProp 𝕄} :
    iprop(core X K c (12 :: ls) lf (4 :: lr) ds dr
      ∗ xHeld X c
      ∗ junk c (bSl 0))
      ⊢ iprop((iprop(core X K c ls (lf ++ [12]) lr ds (4 :: dr) ∗ slotGot X c 4 ∗ xHeld X c) -∗ Φ ⟨⟩)
        -∗ Runs c (k0_part7 xM (Memref.isWhole_whole _) oM (Memref.isWhole_whole _) aM (Memref.isWhole_whole _) bM (Memref.isWhole_whole _)
        lM (Memref.isWhole_whole _) cc0_scratch3 cc0_scratch4 c v5 v6) Φ) := by
  rw [k0_part7_eq_skeleton]
  unfold k0_part7_skel
  simp only [Prog.lift, Prog.bind_op, Prog.bind_ret, Prog.pure_eq_ret]
  iintro ⟨HC, Hx, HB0⟩
  iintro Hk
  iapply (step_recv X K c 4 (below_cons (s := 12) (by decide) h) rfl (recvSem_eq 4)) $$ [HC]; · iexact HC
  iintro ⟨HC, HL4⟩
  iapply (load_keepB X c 0) $$ [Hx]; · iexact Hx
  iintro Hx
  iapply (load_slot X c 4) $$ [HL4]; · iexact HL4
  iintro HL4
  iapply (load_junk c (chunkR 0) (fun _ => rfl)) $$ [HB0]; · iexact HB0
  iintro %_ HB0
  iapply (store_piece c (chunkR 0) (fun _ => rfl) (v := red1B X c 0) (sum_page _ _ _ _ _ _)) $$ [HB0]; · iexact HB0
  iintro HB0
  iapply (send_piece X K c 12 (P := holds c (bSl 0) fullShare (red1B X c 0)) rfl (dev12_eq c) rfl rfl (sendSem_eq 12) (recvSem_eq 12)) $$ [HC HB0]
  · isplitl [HC]; · iexact HC
    iexact HB0
  iintro HC
  iapply (runs_ret c)
  ihave Hk := Hk $$ [HC HL4 Hx]
  · isplitl [HC]; · iexact HC
    isplitl [HL4]; · iexact HL4
    iexact Hx
  iapply Hk

theorem part8 {v2 : BitVec 32} {v5 : BitVec 32} {v6 : BitVec 32} {v7 : BitVec 32} (h : ∀ t ∈ ls, 0 < t.val / 8) {Φ : _ → sProp 𝕄} :
    iprop(core X K c ls (1 :: lf) (1 :: lr) ds dr
      ∗ xHeld X c
      ∗ junk c (aSl 1))
      ⊢ iprop((iprop(core X K c ls lf lr (1 :: ds) (1 :: dr) ∗ srcPts X c 1 ∗ slotGot X c 1 ∗ xHeld X c ∗ holds c (aSl 1) fullShare (red1A X c 1)) -∗ Φ ⟨⟩)
        -∗ Runs c (k0_part8 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part8_eq_skeleton]
  unfold k0_part8_skel
  simp only [Prog.lift, Prog.bind_op, Prog.bind_ret, Prog.pure_eq_ret]
  iintro ⟨HC, Hx, HA1⟩
  iintro Hk
  iapply (sent_piece X K c 1 (P := srcPts X c 1) rfl rfl (sendSem_eq 1)) $$ [HC]; · iexact HC
  iintro ⟨HC, HS1⟩
  iapply (step_recv X K c 1 h rfl (recvSem_eq 1)) $$ [HC]; · iexact HC
  iintro ⟨HC, HL1⟩
  iapply (load_keepA X c 1) $$ [Hx]; · iexact Hx
  iintro Hx
  iapply (load_slot X c 1) $$ [HL1]; · iexact HL1
  iintro HL1
  iapply (load_junk c (chunkR 1) (fun _ => rfl)) $$ [HA1]; · iexact HA1
  iintro %_ HA1
  iapply (store_piece c (chunkR 1) (fun _ => rfl) (v := red1A X c 1) (sum_page _ _ _ _ _ _)) $$ [HA1]; · iexact HA1
  iintro HA1
  iapply (runs_ret c)
  ihave Hk := Hk $$ [HC HS1 HL1 Hx HA1]
  · isplitl [HC]; · iexact HC
    isplitl [HS1]; · iexact HS1
    isplitl [HL1]; · iexact HL1
    isplitl [Hx]; · iexact Hx
    iexact HA1
  iapply Hk

theorem part9 {v2 : BitVec 32} {v5 : BitVec 32} {v7 : BitVec 32} (h : ∀ t ∈ ls, 0 < t.val / 8) {Φ : _ → sProp 𝕄} :
    iprop(core X K c (9 :: ls) (5 :: lf) (5 :: lr) ds dr
      ∗ holds c (aSl 1) fullShare (red1A X c 1)
      ∗ xHeld X c
      ∗ junk c (bSl 1))
      ⊢ iprop((iprop(core X K c ls (lf ++ [9]) lr (5 :: ds) (5 :: dr) ∗ srcPts X c 5 ∗ slotGot X c 5 ∗ xHeld X c ∗ holds c (bSl 1) fullShare (red1B X c 1)) -∗ Φ ⟨⟩)
        -∗ Runs c (k0_part9 xM (Memref.isWhole_whole _) oM (Memref.isWhole_whole _) aM (Memref.isWhole_whole _) bM (Memref.isWhole_whole _)
        lM (Memref.isWhole_whole _) cc0_scratch3 cc0_scratch4 c v2 v5 v7) Φ) := by
  rw [k0_part9_eq_skeleton]
  unfold k0_part9_skel
  simp only [Prog.lift, Prog.bind_op, Prog.bind_ret, Prog.pure_eq_ret]
  iintro ⟨HC, HA1, Hx, HB1⟩
  iintro Hk
  iapply (send_piece X K c 9 (P := holds c (aSl 1) fullShare (red1A X c 1)) rfl (dev13_eq c) rfl rfl (sendSem_eq 9) (recvSem_eq 9)) $$ [HC HA1]
  · isplitl [HC]; · iexact HC
    iexact HA1
  iintro HC
  iapply (sent_piece X K c 5 (P := srcPts X c 5) rfl rfl (sendSem_eq 5)) $$ [HC]; · iexact HC
  iintro ⟨HC, HS5⟩
  iapply (step_recv X K c 5 h rfl (recvSem_eq 5)) $$ [HC]; · iexact HC
  iintro ⟨HC, HL5⟩
  iapply (load_keepB X c 1) $$ [Hx]; · iexact Hx
  iintro Hx
  iapply (load_slot X c 5) $$ [HL5]; · iexact HL5
  iintro HL5
  iapply (load_junk c (chunkR 1) (fun _ => rfl)) $$ [HB1]; · iexact HB1
  iintro %_ HB1
  iapply (store_piece c (chunkR 1) (fun _ => rfl) (v := red1B X c 1) (sum_page _ _ _ _ _ _)) $$ [HB1]; · iexact HB1
  iintro HB1
  iapply (runs_ret c)
  ihave Hk := Hk $$ [HC HS5 HL5 Hx HB1]
  · isplitl [HC]; · iexact HC
    isplitl [HS5]; · iexact HS5
    isplitl [HL5]; · iexact HL5
    isplitl [Hx]; · iexact Hx
    iexact HB1
  iapply Hk

theorem part10 {v2 : BitVec 32} {v5 : BitVec 32} {v6 : BitVec 32} (h : ∀ t ∈ ls, 0 < t.val / 8) {Φ : _ → sProp 𝕄} :
    iprop(core X K c (13 :: ls) (2 :: lf) (2 :: lr) ds dr
      ∗ holds c (bSl 1) fullShare (red1B X c 1)
      ∗ xHeld X c)
      ⊢ iprop((iprop(core X K c ls (lf ++ [13]) lr (2 :: ds) (2 :: dr) ∗ srcPts X c 2 ∗ slotGot X c 2 ∗ xHeld X c) -∗ Φ (keepA X c 2))
        -∗ Runs c (k0_part10 xM (Memref.isWhole_whole _) oM (Memref.isWhole_whole _) aM (Memref.isWhole_whole _) bM (Memref.isWhole_whole _)
        lM (Memref.isWhole_whole _) cc0_scratch3 cc0_scratch4 c v2 v5 v6) Φ) := by
  rw [k0_part10_eq_skeleton]
  unfold k0_part10_skel
  simp only [Prog.lift, Prog.bind_op, Prog.bind_ret, Prog.pure_eq_ret]
  iintro ⟨HC, HB1, Hx⟩
  iintro Hk
  iapply (send_piece X K c 13 (P := holds c (bSl 1) fullShare (red1B X c 1)) rfl (dev14_eq c) rfl rfl (sendSem_eq 13) (recvSem_eq 13)) $$ [HC HB1]
  · isplitl [HC]; · iexact HC
    iexact HB1
  iintro HC
  iapply (sent_piece X K c 2 (P := srcPts X c 2) rfl rfl (sendSem_eq 2)) $$ [HC]; · iexact HC
  iintro ⟨HC, HS2⟩
  iapply (step_recv X K c 2 h rfl (recvSem_eq 2)) $$ [HC]; · iexact HC
  iintro ⟨HC, HL2⟩
  iapply (load_keepA X c 2) $$ [Hx]; · iexact Hx
  iintro Hx
  iapply (runs_ret c)
  ihave Hk := Hk $$ [HC HS2 HL2 Hx]
  · isplitl [HC]; · iexact HC
    isplitl [HS2]; · iexact HS2
    isplitl [HL2]; · iexact HL2
    iexact Hx
  iapply Hk

theorem part11 {v2 : BitVec 32} {v7 : BitVec 32} {Φ : _ → sProp 𝕄} :
    iprop(core X K c (10 :: ls) (6 :: lf) lr ds dr
      ∗ slotGot X c 2
      ∗ junk c (aSl 2))
      ⊢ iprop((iprop(core X K c ls (lf ++ [10]) lr (6 :: ds) dr ∗ slotGot X c 2 ∗ srcPts X c 6) -∗ Φ ⟨⟩)
        -∗ Runs c (k0_part11 xM (Memref.isWhole_whole _) oM (Memref.isWhole_whole _) aM (Memref.isWhole_whole _) bM (Memref.isWhole_whole _)
        lM (Memref.isWhole_whole _) cc0_scratch3 cc0_scratch4 c v2 v7 (keepA X c 2)) Φ) := by
  rw [k0_part11_eq_skeleton]
  unfold k0_part11_skel
  simp only [Prog.lift, Prog.bind_op, Prog.bind_ret, Prog.pure_eq_ret]
  iintro ⟨HC, HL2, HA2⟩
  iintro Hk
  iapply (load_slot X c 2) $$ [HL2]; · iexact HL2
  iintro HL2
  iapply (load_junk c (chunkR 2) (fun _ => rfl)) $$ [HA2]; · iexact HA2
  iintro %_ HA2
  iapply (store_piece c (chunkR 2) (fun _ => rfl) (v := red1A X c 2) (sum_page _ _ _ _ _ _)) $$ [HA2]; · iexact HA2
  iintro HA2
  iapply (send_piece X K c 10 (P := holds c (aSl 2) fullShare (red1A X c 2)) rfl (dev15_eq c) rfl rfl (sendSem_eq 10) (recvSem_eq 10)) $$ [HC HA2]
  · isplitl [HC]; · iexact HC
    iexact HA2
  iintro HC
  iapply (sent_piece X K c 6 (P := srcPts X c 6) rfl rfl (sendSem_eq 6)) $$ [HC]; · iexact HC
  iintro ⟨HC, HS6⟩
  iapply (runs_ret c)
  ihave Hk := Hk $$ [HC HL2 HS6]
  · isplitl [HC]; · iexact HC
    isplitl [HL2]; · iexact HL2
    iexact HS6
  iapply Hk

theorem part12 {v5 : BitVec 32} {v6 : BitVec 32} (h : ∀ t ∈ ls, 0 < t.val / 8) {Φ : _ → sProp 𝕄} :
    iprop(core X K c (14 :: ls) lf (6 :: lr) ds dr
      ∗ xHeld X c
      ∗ junk c (bSl 2))
      ⊢ iprop((iprop(core X K c ls (lf ++ [14]) lr ds (6 :: dr) ∗ slotGot X c 6 ∗ xHeld X c) -∗ Φ ⟨⟩)
        -∗ Runs c (k0_part12 xM (Memref.isWhole_whole _) oM (Memref.isWhole_whole _) aM (Memref.isWhole_whole _) bM (Memref.isWhole_whole _)
        lM (Memref.isWhole_whole _) cc0_scratch3 cc0_scratch4 c v5 v6) Φ) := by
  rw [k0_part12_eq_skeleton]
  unfold k0_part12_skel
  simp only [Prog.lift, Prog.bind_op, Prog.bind_ret, Prog.pure_eq_ret]
  iintro ⟨HC, Hx, HB2⟩
  iintro Hk
  iapply (step_recv X K c 6 (below_cons (s := 14) (by decide) h) rfl (recvSem_eq 6)) $$ [HC]; · iexact HC
  iintro ⟨HC, HL6⟩
  iapply (load_keepB X c 2) $$ [Hx]; · iexact Hx
  iintro Hx
  iapply (load_slot X c 6) $$ [HL6]; · iexact HL6
  iintro HL6
  iapply (load_junk c (chunkR 2) (fun _ => rfl)) $$ [HB2]; · iexact HB2
  iintro %_ HB2
  iapply (store_piece c (chunkR 2) (fun _ => rfl) (v := red1B X c 2) (sum_page _ _ _ _ _ _)) $$ [HB2]; · iexact HB2
  iintro HB2
  iapply (send_piece X K c 14 (P := holds c (bSl 2) fullShare (red1B X c 2)) rfl (dev16_eq c) rfl rfl (sendSem_eq 14) (recvSem_eq 14)) $$ [HC HB2]
  · isplitl [HC]; · iexact HC
    iexact HB2
  iintro HC
  iapply (runs_ret c)
  ihave Hk := Hk $$ [HC HL6 Hx]
  · isplitl [HC]; · iexact HC
    isplitl [HL6]; · iexact HL6
    iexact Hx
  iapply Hk

theorem part13 {v2 : BitVec 32} {v5 : BitVec 32} {v6 : BitVec 32} {v7 : BitVec 32} (h : ∀ t ∈ ls, 0 < t.val / 8) {Φ : _ → sProp 𝕄} :
    iprop(core X K c ls (3 :: lf) (3 :: lr) ds dr
      ∗ xHeld X c
      ∗ junk c (aSl 3))
      ⊢ iprop((iprop(core X K c ls lf lr (3 :: ds) (3 :: dr) ∗ srcPts X c 3 ∗ slotGot X c 3 ∗ xHeld X c ∗ holds c (aSl 3) fullShare (red1A X c 3)) -∗ Φ ⟨⟩)
        -∗ Runs c (k0_part13 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part13_eq_skeleton]
  unfold k0_part13_skel
  simp only [Prog.lift, Prog.bind_op, Prog.bind_ret, Prog.pure_eq_ret]
  iintro ⟨HC, Hx, HA3⟩
  iintro Hk
  iapply (sent_piece X K c 3 (P := srcPts X c 3) rfl rfl (sendSem_eq 3)) $$ [HC]; · iexact HC
  iintro ⟨HC, HS3⟩
  iapply (step_recv X K c 3 h rfl (recvSem_eq 3)) $$ [HC]; · iexact HC
  iintro ⟨HC, HL3⟩
  iapply (load_keepA X c 3) $$ [Hx]; · iexact Hx
  iintro Hx
  iapply (load_slot X c 3) $$ [HL3]; · iexact HL3
  iintro HL3
  iapply (load_junk c (chunkR 3) (fun _ => rfl)) $$ [HA3]; · iexact HA3
  iintro %_ HA3
  iapply (store_piece c (chunkR 3) (fun _ => rfl) (v := red1A X c 3) (sum_page _ _ _ _ _ _)) $$ [HA3]; · iexact HA3
  iintro HA3
  iapply (runs_ret c)
  ihave Hk := Hk $$ [HC HS3 HL3 Hx HA3]
  · isplitl [HC]; · iexact HC
    isplitl [HS3]; · iexact HS3
    isplitl [HL3]; · iexact HL3
    isplitl [Hx]; · iexact Hx
    iexact HA3
  iapply Hk

theorem part14 {v2 : BitVec 32} {v5 : BitVec 32} {v7 : BitVec 32} (h : ∀ t ∈ ls, 0 < t.val / 8) {Φ : _ → sProp 𝕄} :
    iprop(core X K c (11 :: ls) (7 :: lf) (7 :: lr) ds dr
      ∗ holds c (aSl 3) fullShare (red1A X c 3)
      ∗ xHeld X c
      ∗ junk c (bSl 3))
      ⊢ iprop((iprop(core X K c ls (lf ++ [11]) lr (7 :: ds) (7 :: dr) ∗ srcPts X c 7 ∗ slotGot X c 7 ∗ xHeld X c ∗ holds c (bSl 3) fullShare (red1B X c 3)) -∗ Φ ⟨⟩)
        -∗ Runs c (k0_part14 xM (Memref.isWhole_whole _) oM (Memref.isWhole_whole _) aM (Memref.isWhole_whole _) bM (Memref.isWhole_whole _)
        lM (Memref.isWhole_whole _) cc0_scratch3 cc0_scratch4 c v2 v5 v7) Φ) := by
  rw [k0_part14_eq_skeleton]
  unfold k0_part14_skel
  simp only [Prog.lift, Prog.bind_op, Prog.bind_ret, Prog.pure_eq_ret]
  iintro ⟨HC, HA3, Hx, HB3⟩
  iintro Hk
  iapply (send_piece X K c 11 (P := holds c (aSl 3) fullShare (red1A X c 3)) rfl (dev17_eq c) rfl rfl (sendSem_eq 11) (recvSem_eq 11)) $$ [HC HA3]
  · isplitl [HC]; · iexact HC
    iexact HA3
  iintro HC
  iapply (sent_piece X K c 7 (P := srcPts X c 7) rfl rfl (sendSem_eq 7)) $$ [HC]; · iexact HC
  iintro ⟨HC, HS7⟩
  iapply (step_recv X K c 7 h rfl (recvSem_eq 7)) $$ [HC]; · iexact HC
  iintro ⟨HC, HL7⟩
  iapply (load_keepB X c 3) $$ [Hx]; · iexact Hx
  iintro Hx
  iapply (load_slot X c 7) $$ [HL7]; · iexact HL7
  iintro HL7
  iapply (load_junk c (chunkR 3) (fun _ => rfl)) $$ [HB3]; · iexact HB3
  iintro %_ HB3
  iapply (store_piece c (chunkR 3) (fun _ => rfl) (v := red1B X c 3) (sum_page _ _ _ _ _ _)) $$ [HB3]; · iexact HB3
  iintro HB3
  iapply (runs_ret c)
  ihave Hk := Hk $$ [HC HS7 HL7 Hx HB3]
  · isplitl [HC]; · iexact HC
    isplitl [HS7]; · iexact HS7
    isplitl [HL7]; · iexact HL7
    isplitl [Hx]; · iexact Hx
    iexact HB3
  iapply Hk

theorem part15 {v2 : BitVec 32} {v5 : BitVec 32} {v6 : BitVec 32} {v7 : BitVec 32} (h : ∀ t ∈ ls, 1 < t.val / 8) {Φ : _ → sProp 𝕄} :
    iprop(core X K c (15 :: ls) (8 :: lf) (8 :: lr) ds dr
      ∗ holds c (bSl 3) fullShare (red1B X c 3))
      ⊢ iprop((iprop(core X K c ls (lf ++ [15]) lr (8 :: ds) (8 :: dr) ∗ holds c (aSl 0) fullShare (red1A X c 0) ∗ slotGot X c 8) -∗ Φ (red1A X c 0))
        -∗ Runs c (k0_part15 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part15_eq_skeleton]
  unfold k0_part15_skel
  simp only [Prog.lift, Prog.bind_op, Prog.bind_ret, Prog.pure_eq_ret]
  iintro ⟨HC, HB3⟩
  iintro Hk
  iapply (send_piece X K c 15 (P := holds c (bSl 3) fullShare (red1B X c 3)) rfl (dev18_eq c) rfl rfl (sendSem_eq 15) (recvSem_eq 15)) $$ [HC HB3]
  · isplitl [HC]; · iexact HC
    iexact HB3
  iintro HC
  iapply (sent_piece X K c 8 (P := holds c (aSl 0) fullShare (red1A X c 0)) rfl rfl (sendSem_eq 8)) $$ [HC]; · iexact HC
  iintro ⟨HC, HA0⟩
  iapply (step_recv X K c 8 h rfl (recvSem_eq 8)) $$ [HC]; · iexact HC
  iintro ⟨HC, HL8⟩
  iapply (load_piece c (chunkR 0) (fun _ => rfl)) $$ [HA0]; · iexact HA0
  iintro HA0
  iapply (runs_ret c)
  ihave Hk := Hk $$ [HC HA0 HL8]
  · isplitl [HC]; · iexact HC
    isplitl [HA0]; · iexact HA0
    iexact HL8
  iapply Hk

theorem part16 {v5 : BitVec 32} {v6 : BitVec 32} {Φ : _ → sProp 𝕄} :
    iprop(core X K c (16 :: ls) (12 :: lf) lr ds dr
      ∗ slotGot X c 8
      ∗ holds c (aSl 0) fullShare (red1A X c 0))
      ⊢ iprop((iprop(core X K c ls (lf ++ [16]) lr (12 :: ds) dr ∗ slotGot X c 8 ∗ holds c (aSl 0) fullShare.left (red2A X c 0) ∗ holds c (bSl 0) fullShare (red1B X c 0)) -∗ Φ ⟨⟩)
        -∗ Runs c (k0_part16 xM (Memref.isWhole_whole _) oM (Memref.isWhole_whole _) aM (Memref.isWhole_whole _) bM (Memref.isWhole_whole _)
        lM (Memref.isWhole_whole _) cc0_scratch3 cc0_scratch4 c v5 v6 (red1A X c 0)) Φ) := by
  rw [k0_part16_eq_skeleton]
  unfold k0_part16_skel
  simp only [Prog.lift, Prog.bind_op, Prog.bind_ret, Prog.pure_eq_ret]
  iintro ⟨HC, HL8, HA0⟩
  iintro Hk
  iapply (load_slot X c 8) $$ [HL8]; · iexact HL8
  iintro HL8
  iapply (load_piece c (chunkR 0) (fun _ => rfl)) $$ [HA0]; · iexact HA0
  iintro HA0
  ihave HA0 := (holds_junk c _ _) $$ HA0
  iapply (store_piece c (chunkR 0) (fun _ => rfl) (v := red2A X c 0) (sum_page' _ _ _ _ _)) $$ [HA0]; · iexact HA0
  iintro HA0
  ihave HA0 := (holds_halves c _ _).1 $$ HA0
  icases HA0 with ⟨HA0, HA0r⟩
  iapply (send_piece X K c 16 (P := holds c (aSl 0) fullShare.right (red2A X c 0)) rfl (dev19_eq c) rfl rfl (sendSem_eq 16) (recvSem_eq 16)) $$ [HC HA0r]
  · isplitl [HC]; · iexact HC
    iexact HA0r
  iintro HC
  iapply (sent_piece X K c 12 (P := holds c (bSl 0) fullShare (red1B X c 0)) rfl rfl (sendSem_eq 12)) $$ [HC]; · iexact HC
  iintro ⟨HC, HB0⟩
  iapply (runs_ret c)
  ihave Hk := Hk $$ [HC HL8 HA0 HB0]
  · isplitl [HC]; · iexact HC
    isplitl [HL8]; · iexact HL8
    isplitl [HA0]; · iexact HA0
    iexact HB0
  iapply Hk

theorem part17 {v2 : BitVec 32} {v7 : BitVec 32} (h : ∀ t ∈ ls, 1 < t.val / 8) {Φ : _ → sProp 𝕄} :
    iprop(core X K c (20 :: ls) (9 :: lf) (12 :: lr) ds dr
      ∗ holds c (bSl 0) fullShare (red1B X c 0))
      ⊢ iprop((iprop(core X K c ls (lf ++ [20]) lr (9 :: ds) (12 :: dr) ∗ slotGot X c 12 ∗ holds c (bSl 0) fullShare.left (red2B X c 0) ∗ holds c (aSl 1) fullShare (red1A X c 1)) -∗ Φ ⟨⟩)
        -∗ Runs c (k0_part17 xM (Memref.isWhole_whole _) oM (Memref.isWhole_whole _) aM (Memref.isWhole_whole _) bM (Memref.isWhole_whole _)
        lM (Memref.isWhole_whole _) cc0_scratch3 cc0_scratch4 c v2 v7) Φ) := by
  rw [k0_part17_eq_skeleton]
  unfold k0_part17_skel
  simp only [Prog.lift, Prog.bind_op, Prog.bind_ret, Prog.pure_eq_ret]
  iintro ⟨HC, HB0⟩
  iintro Hk
  iapply (step_recv X K c 12 (below_cons (s := 20) (by decide) h) rfl (recvSem_eq 12)) $$ [HC]; · iexact HC
  iintro ⟨HC, HL12⟩
  iapply (load_piece c (chunkR 0) (fun _ => rfl)) $$ [HB0]; · iexact HB0
  iintro HB0
  iapply (load_slot X c 12) $$ [HL12]; · iexact HL12
  iintro HL12
  iapply (load_piece c (chunkR 0) (fun _ => rfl)) $$ [HB0]; · iexact HB0
  iintro HB0
  ihave HB0 := (holds_junk c _ _) $$ HB0
  iapply (store_piece c (chunkR 0) (fun _ => rfl) (v := red2B X c 0) (sum_page' _ _ _ _ _)) $$ [HB0]; · iexact HB0
  iintro HB0
  ihave HB0 := (holds_halves c _ _).1 $$ HB0
  icases HB0 with ⟨HB0, HB0r⟩
  iapply (send_piece X K c 20 (P := holds c (bSl 0) fullShare.right (red2B X c 0)) rfl (dev20_eq c) rfl rfl (sendSem_eq 20) (recvSem_eq 20)) $$ [HC HB0r]
  · isplitl [HC]; · iexact HC
    iexact HB0r
  iintro HC
  iapply (sent_piece X K c 9 (P := holds c (aSl 1) fullShare (red1A X c 1)) rfl rfl (sendSem_eq 9)) $$ [HC]; · iexact HC
  iintro ⟨HC, HA1⟩
  iapply (runs_ret c)
  ihave Hk := Hk $$ [HC HL12 HB0 HA1]
  · isplitl [HC]; · iexact HC
    isplitl [HL12]; · iexact HL12
    isplitl [HB0]; · iexact HB0
    iexact HA1
  iapply Hk

theorem part18 {v2 : BitVec 32} {v5 : BitVec 32} {v6 : BitVec 32} {v7 : BitVec 32} (h : ∀ t ∈ ls, 1 < t.val / 8) {Φ : _ → sProp 𝕄} :
    iprop(core X K c (17 :: ls) lf (9 :: lr) ds dr
      ∗ holds c (aSl 1) fullShare (red1A X c 1))
      ⊢ iprop((iprop(core X K c ls (lf ++ [17]) lr ds (9 :: dr) ∗ slotGot X c 9 ∗ holds c (aSl 1) fullShare.left (red2A X c 1)) -∗ Φ ⟨⟩)
        -∗ Runs c (k0_part18 xM (Memref.isWhole_whole _) oM (Memref.isWhole_whole _) aM (Memref.isWhole_whole _) bM (Memref.isWhole_whole _)
        lM (Memref.isWhole_whole _) cc0_scratch3 cc0_scratch4 c v2 v5 v6 v7) Φ) := by
  rw [k0_part18_eq_skeleton]
  unfold k0_part18_skel
  simp only [Prog.lift, Prog.bind_op, Prog.bind_ret, Prog.pure_eq_ret]
  iintro ⟨HC, HA1⟩
  iintro Hk
  iapply (step_recv X K c 9 (below_cons (s := 17) (by decide) h) rfl (recvSem_eq 9)) $$ [HC]; · iexact HC
  iintro ⟨HC, HL9⟩
  iapply (load_piece c (chunkR 1) (fun _ => rfl)) $$ [HA1]; · iexact HA1
  iintro HA1
  iapply (load_slot X c 9) $$ [HL9]; · iexact HL9
  iintro HL9
  iapply (load_piece c (chunkR 1) (fun _ => rfl)) $$ [HA1]; · iexact HA1
  iintro HA1
  ihave HA1 := (holds_junk c _ _) $$ HA1
  iapply (store_piece c (chunkR 1) (fun _ => rfl) (v := red2A X c 1) (sum_page' _ _ _ _ _)) $$ [HA1]; · iexact HA1
  iintro HA1
  ihave HA1 := (holds_halves c _ _).1 $$ HA1
  icases HA1 with ⟨HA1, HA1r⟩
  iapply (send_piece X K c 17 (P := holds c (aSl 1) fullShare.right (red2A X c 1)) rfl (dev21_eq c) rfl rfl (sendSem_eq 17) (recvSem_eq 17)) $$ [HC HA1r]
  · isplitl [HC]; · iexact HC
    iexact HA1r
  iintro HC
  iapply (runs_ret c)
  ihave Hk := Hk $$ [HC HL9 HA1]
  · isplitl [HC]; · iexact HC
    isplitl [HL9]; · iexact HL9
    iexact HA1
  iapply Hk

theorem part19 {v2 : BitVec 32} {v5 : BitVec 32} {v6 : BitVec 32} {v7 : BitVec 32} (h : ∀ t ∈ ls, 1 < t.val / 8) {Φ : _ → sProp 𝕄} :
    core X K c ls (13 :: lf) (13 :: lr) ds dr
      ⊢ iprop((iprop(core X K c ls lf lr (13 :: ds) (13 :: dr) ∗ holds c (bSl 1) fullShare (red2B X c 1) ∗ slotGot X c 13) -∗ Φ ⟨⟩)
        -∗ Runs c (k0_part19 xM (Memref.isWhole_whole _) oM (Memref.isWhole_whole _) aM (Memref.isWhole_whole _) bM (Memref.isWhole_whole _)
        lM (Memref.isWhole_whole _) cc0_scratch3 cc0_scratch4 v2 v5 v6 v7) Φ) := by
  rw [k0_part19_eq_skeleton]
  unfold k0_part19_skel
  simp only [Prog.lift, Prog.bind_op, Prog.bind_ret, Prog.pure_eq_ret]
  iintro HC
  iintro Hk
  iapply (sent_piece X K c 13 (P := holds c (bSl 1) fullShare (red1B X c 1)) rfl rfl (sendSem_eq 13)) $$ [HC]; · iexact HC
  iintro ⟨HC, HB1⟩
  iapply (step_recv X K c 13 h rfl (recvSem_eq 13)) $$ [HC]; · iexact HC
  iintro ⟨HC, HL13⟩
  iapply (load_piece c (chunkR 1) (fun _ => rfl)) $$ [HB1]; · iexact HB1
  iintro HB1
  iapply (load_slot X c 13) $$ [HL13]; · iexact HL13
  iintro HL13
  iapply (load_piece c (chunkR 1) (fun _ => rfl)) $$ [HB1]; · iexact HB1
  iintro HB1
  ihave HB1 := (holds_junk c _ _) $$ HB1
  iapply (store_piece c (chunkR 1) (fun _ => rfl) (v := red2B X c 1) (sum_page' _ _ _ _ _)) $$ [HB1]; · iexact HB1
  iintro HB1
  iapply (runs_ret c)
  ihave Hk := Hk $$ [HC HB1 HL13]
  · isplitl [HC]; · iexact HC
    isplitl [HB1]; · iexact HB1
    iexact HL13
  iapply Hk

theorem part20 {v2 : BitVec 32} {v6 : BitVec 32} {v7 : BitVec 32} (h : ∀ t ∈ ls, 1 < t.val / 8) {Φ : _ → sProp 𝕄} :
    iprop(core X K c (21 :: ls) (10 :: lf) (10 :: lr) ds dr
      ∗ holds c (bSl 1) fullShare (red2B X c 1))
      ⊢ iprop((iprop(core X K c ls (lf ++ [21]) lr (10 :: ds) (10 :: dr) ∗ holds c (bSl 1) fullShare.left (red2B X c 1) ∗ holds c (aSl 2) fullShare (red2A X c 2) ∗ slotGot X c 10) -∗ ∀ v w, Φ ⟨v, w⟩)
        -∗ Runs c (k0_part20 xM (Memref.isWhole_whole _) oM (Memref.isWhole_whole _) aM (Memref.isWhole_whole _) bM (Memref.isWhole_whole _)
        lM (Memref.isWhole_whole _) cc0_scratch3 cc0_scratch4 c v2 v6 v7) Φ) := by
  rw [k0_part20_eq_skeleton]
  unfold k0_part20_skel
  simp only [Prog.lift, Prog.bind_op, Prog.bind_ret, Prog.pure_eq_ret]
  iintro ⟨HC, HB1⟩
  iintro Hk
  ihave HB1 := (holds_halves c _ _).1 $$ HB1
  icases HB1 with ⟨HB1, HB1r⟩
  iapply (send_piece X K c 21 (P := holds c (bSl 1) fullShare.right (red2B X c 1)) rfl (dev22_eq c) rfl rfl (sendSem_eq 21) (recvSem_eq 21)) $$ [HC HB1r]
  · isplitl [HC]; · iexact HC
    iexact HB1r
  iintro HC
  iapply (sent_piece X K c 10 (P := holds c (aSl 2) fullShare (red1A X c 2)) rfl rfl (sendSem_eq 10)) $$ [HC]; · iexact HC
  iintro ⟨HC, HA2⟩
  iapply (step_recv X K c 10 h rfl (recvSem_eq 10)) $$ [HC]; · iexact HC
  iintro ⟨HC, HL10⟩
  iapply (load_piece c (chunkR 2) (fun _ => rfl)) $$ [HA2]; · iexact HA2
  iintro HA2
  iapply (load_slot X c 10) $$ [HL10]; · iexact HL10
  iintro HL10
  iapply (load_piece c (chunkR 2) (fun _ => rfl)) $$ [HA2]; · iexact HA2
  iintro HA2
  ihave HA2 := (holds_junk c _ _) $$ HA2
  iapply (store_piece c (chunkR 2) (fun _ => rfl) (v := red2A X c 2) (sum_page' _ _ _ _ _)) $$ [HA2]; · iexact HA2
  iintro HA2
  iapply (runs_ret c)
  ihave Hk := Hk $$ [HC HB1 HA2 HL10]
  · isplitl [HC]; · iexact HC
    isplitl [HB1]; · iexact HB1
    isplitl [HA2]; · iexact HA2
    iexact HL10
  iapply Hk

theorem part21 {v5 : BitVec 32} {v6 : BitVec 32} {v574 : BitVec 32} {c0_i32_518 : BitVec 32} (h : ∀ t ∈ ls, 1 < t.val / 8) {Φ : _ → sProp 𝕄} :
    iprop(core X K c (18 :: ls) (14 :: lf) (14 :: lr) ds dr
      ∗ holds c (aSl 2) fullShare (red2A X c 2))
      ⊢ iprop((iprop(core X K c ls (lf ++ [18]) lr (14 :: ds) (14 :: dr) ∗ holds c (aSl 2) fullShare.left (red2A X c 2) ∗ holds c (bSl 2) fullShare (red1B X c 2) ∗ slotGot X c 14) -∗ Φ (red2B X c 2))
        -∗ Runs c (k0_part21 xM (Memref.isWhole_whole _) oM (Memref.isWhole_whole _) aM (Memref.isWhole_whole _) bM (Memref.isWhole_whole _)
        lM (Memref.isWhole_whole _) cc0_scratch3 cc0_scratch4 c v5 v6 v574 c0_i32_518) Φ) := by
  rw [k0_part21_eq_skeleton]
  unfold k0_part21_skel
  simp only [Prog.lift, Prog.bind_op, Prog.bind_ret, Prog.pure_eq_ret]
  iintro ⟨HC, HA2⟩
  iintro Hk
  ihave HA2 := (holds_halves c _ _).1 $$ HA2
  icases HA2 with ⟨HA2, HA2r⟩
  iapply (send_piece X K c 18 (P := holds c (aSl 2) fullShare.right (red2A X c 2)) rfl (dev23_eq c) rfl rfl (sendSem_eq 18) (recvSem_eq 18)) $$ [HC HA2r]
  · isplitl [HC]; · iexact HC
    iexact HA2r
  iintro HC
  iapply (sent_piece X K c 14 (P := holds c (bSl 2) fullShare (red1B X c 2)) rfl rfl (sendSem_eq 14)) $$ [HC]; · iexact HC
  iintro ⟨HC, HB2⟩
  iapply (step_recv X K c 14 h rfl (recvSem_eq 14)) $$ [HC]; · iexact HC
  iintro ⟨HC, HL14⟩
  iapply (load_piece c (chunkR 2) (fun _ => rfl)) $$ [HB2]; · iexact HB2
  iintro HB2
  iapply (load_slot X c 14) $$ [HL14]; · iexact HL14
  iintro HL14
  iapply (runs_ret c)
  rw [show k0_pay15 (red1B X c 2) (page 14 (sent X (peer 14 c) 14)) = red2B X c 2 from congrArg (addf (red1B X c 2)) (cast_page 14 _ _)]
  ihave Hk := Hk $$ [HC HA2 HB2 HL14]
  · isplitl [HC]; · iexact HC
    isplitl [HA2]; · iexact HA2
    isplitl [HB2]; · iexact HB2
    iexact HL14
  iapply Hk

theorem part22 {v2 : BitVec 32} {v7 : BitVec 32} {v602 : FVec F S64x512 .f32} (hw : v602 = red2B X c 2) {Φ : _ → sProp 𝕄} :
    iprop(core X K c (22 :: ls) (11 :: lf) lr ds dr
      ∗ holds c (bSl 2) fullShare (red1B X c 2))
      ⊢ iprop((iprop(core X K c ls (lf ++ [22]) lr (11 :: ds) dr ∗ holds c (bSl 2) fullShare.left (red2B X c 2) ∗ holds c (aSl 3) fullShare (red1A X c 3)) -∗ Φ ⟨⟩)
        -∗ Runs c (k0_part22 xM (Memref.isWhole_whole _) oM (Memref.isWhole_whole _) aM (Memref.isWhole_whole _) bM (Memref.isWhole_whole _)
        lM (Memref.isWhole_whole _) cc0_scratch3 cc0_scratch4 c v2 v7 v602) Φ) := by
  rw [k0_part22_eq_skeleton]
  unfold k0_part22_skel
  simp only [Prog.lift, Prog.bind_op, Prog.bind_ret, Prog.pure_eq_ret]
  iintro ⟨HC, HB2⟩
  iintro Hk
  iapply (load_piece c (chunkR 2) (fun _ => rfl)) $$ [HB2]; · iexact HB2
  iintro HB2
  ihave HB2 := (holds_junk c _ _) $$ HB2
  iapply (store_piece c (chunkR 2) (fun _ => rfl) (v := red2B X c 2) ((shapeCast_self _ _).trans hw)) $$ [HB2]; · iexact HB2
  iintro HB2
  ihave HB2 := (holds_halves c _ _).1 $$ HB2
  icases HB2 with ⟨HB2, HB2r⟩
  iapply (send_piece X K c 22 (P := holds c (bSl 2) fullShare.right (red2B X c 2)) rfl (dev24_eq c) rfl rfl (sendSem_eq 22) (recvSem_eq 22)) $$ [HC HB2r]
  · isplitl [HC]; · iexact HC
    iexact HB2r
  iintro HC
  iapply (sent_piece X K c 11 (P := holds c (aSl 3) fullShare (red1A X c 3)) rfl rfl (sendSem_eq 11)) $$ [HC]; · iexact HC
  iintro ⟨HC, HA3⟩
  iapply (runs_ret c)
  ihave Hk := Hk $$ [HC HB2 HA3]
  · isplitl [HC]; · iexact HC
    isplitl [HB2]; · iexact HB2
    iexact HA3
  iapply Hk

theorem part23 {v5 : BitVec 32} {v6 : BitVec 32} (h : ∀ t ∈ ls, 1 < t.val / 8) {Φ : _ → sProp 𝕄} :
    iprop(core X K c (19 :: ls) (15 :: lf) (11 :: lr) ds dr
      ∗ holds c (aSl 3) fullShare (red1A X c 3))
      ⊢ iprop((iprop(core X K c ls (lf ++ [19]) lr (15 :: ds) (11 :: dr) ∗ slotGot X c 11 ∗ holds c (aSl 3) fullShare.left (red2A X c 3) ∗ holds c (bSl 3) fullShare (red1B X c 3)) -∗ ∀ v w, Φ ⟨v, w⟩)
        -∗ Runs c (k0_part23 xM (Memref.isWhole_whole _) oM (Memref.isWhole_whole _) aM (Memref.isWhole_whole _) bM (Memref.isWhole_whole _)
        lM (Memref.isWhole_whole _) cc0_scratch3 cc0_scratch4 c v5 v6) Φ) := by
  rw [k0_part23_eq_skeleton]
  unfold k0_part23_skel
  simp only [Prog.lift, Prog.bind_op, Prog.bind_ret, Prog.pure_eq_ret]
  iintro ⟨HC, HA3⟩
  iintro Hk
  iapply (step_recv X K c 11 (below_cons (s := 19) (by decide) h) rfl (recvSem_eq 11)) $$ [HC]; · iexact HC
  iintro ⟨HC, HL11⟩
  iapply (load_piece c (chunkR 3) (fun _ => rfl)) $$ [HA3]; · iexact HA3
  iintro HA3
  iapply (load_slot X c 11) $$ [HL11]; · iexact HL11
  iintro HL11
  iapply (load_piece c (chunkR 3) (fun _ => rfl)) $$ [HA3]; · iexact HA3
  iintro HA3
  ihave HA3 := (holds_junk c _ _) $$ HA3
  iapply (store_piece c (chunkR 3) (fun _ => rfl) (v := red2A X c 3) (sum_page' _ _ _ _ _)) $$ [HA3]; · iexact HA3
  iintro HA3
  ihave HA3 := (holds_halves c _ _).1 $$ HA3
  icases HA3 with ⟨HA3, HA3r⟩
  iapply (send_piece X K c 19 (P := holds c (aSl 3) fullShare.right (red2A X c 3)) rfl (dev25_eq c) rfl rfl (sendSem_eq 19) (recvSem_eq 19)) $$ [HC HA3r]
  · isplitl [HC]; · iexact HC
    iexact HA3r
  iintro HC
  iapply (sent_piece X K c 15 (P := holds c (bSl 3) fullShare (red1B X c 3)) rfl rfl (sendSem_eq 15)) $$ [HC]; · iexact HC
  iintro ⟨HC, HB3⟩
  iapply (runs_ret c)
  ihave Hk := Hk $$ [HC HL11 HA3 HB3]
  · isplitl [HC]; · iexact HC
    isplitl [HL11]; · iexact HL11
    isplitl [HA3]; · iexact HA3
    iexact HB3
  iapply Hk

theorem part24 {v2 : BitVec 32} {v5 : BitVec 32} {v7 : BitVec 32} {v655 : BitVec 32} {c1_i32_603 : BitVec 32} (h : ∀ t ∈ ls, 1 < t.val / 8) {Φ : _ → sProp 𝕄} :
    iprop(core X K c (23 :: ls) lf (15 :: lr) ds dr
      ∗ holds c (bSl 3) fullShare (red1B X c 3)
      ∗ holds c (aSl 0) fullShare.left (red2A X c 0)
      ∗ holds c (aSl 1) fullShare.left (red2A X c 1)
      ∗ holds c (aSl 2) fullShare.left (red2A X c 2)
      ∗ holds c (aSl 3) fullShare.left (red2A X c 3)
      ∗ written X c [])
      ⊢ iprop((iprop(core X K c ls (lf ++ [23]) lr ds (15 :: dr) ∗ slotGot X c 15 ∗ holds c (bSl 3) fullShare.left (red2B X c 3) ∗ holds c aM fullShare.left (stack (red2A X c)) ∗ written X c [mineA c]) -∗ Φ ⟨⟩)
        -∗ Runs c (k0_part24 xM (Memref.isWhole_whole _) oM (Memref.isWhole_whole _) aM (Memref.isWhole_whole _) bM (Memref.isWhole_whole _)
        lM (Memref.isWhole_whole _) cc0_scratch3 cc0_scratch4 c v2 v5 v7 v655 c1_i32_603) Φ) := by
  rw [k0_part24_eq_skeleton]
  unfold k0_part24_skel
  simp only [Prog.lift, Prog.bind_op, Prog.bind_ret, Prog.pure_eq_ret]
  iintro ⟨HC, HB3, HA0, HA1, HA2, HA3, HO⟩
  iintro Hk
  iapply (step_recv X K c 15 (below_cons (s := 23) (by decide) h) rfl (recvSem_eq 15)) $$ [HC]; · iexact HC
  iintro ⟨HC, HL15⟩
  iapply (load_piece c (chunkR 3) (fun _ => rfl)) $$ [HB3]; · iexact HB3
  iintro HB3
  iapply (load_slot X c 15) $$ [HL15]; · iexact HL15
  iintro HL15
  iapply (load_piece c (chunkR 3) (fun _ => rfl)) $$ [HB3]; · iexact HB3
  iintro HB3
  ihave HB3 := (holds_junk c _ _) $$ HB3
  iapply (store_piece c (chunkR 3) (fun _ => rfl) (v := red2B X c 3) (sum_page' _ _ _ _ _)) $$ [HB3]; · iexact HB3
  iintro HB3
  ihave HB3 := (holds_halves c _ _).1 $$ HB3
  icases HB3 with ⟨HB3, HB3r⟩
  iapply (send_piece X K c 23 (P := holds c (bSl 3) fullShare.right (red2B X c 3)) rfl (dev26_eq c) rfl rfl (sendSem_eq 23) (recvSem_eq 23)) $$ [HC HB3r]
  · isplitl [HC]; · iexact HC
    iexact HB3r
  iintro HC
  ihave HA := (acc_join c aM fullShare.left (red2A X c)) $$ [HA0 HA1 HA2 HA3]
  · isplitl [HA0]; · iexact HA0
    isplitl [HA1]; · iexact HA1
    isplitl [HA2]; · iexact HA2
    iexact HA3
  iapply (load_acc c aM (red2A X c)) $$ [HA]; · iexact HA
  iintro HA
  iapply (load_out X c) $$ [HO]; · iexact HO
  iintro %_ HO
  iapply (store_mineA X c rfl) $$ [HO]; · iexact HO
  iintro HO
  iapply (runs_ret c)
  ihave Hk := Hk $$ [HC HL15 HB3 HA HO]
  · isplitl [HC]; · iexact HC
    isplitl [HL15]; · iexact HL15
    isplitl [HB3]; · iexact HB3
    isplitl [HA]; · iexact HA
    iexact HO
  iapply Hk

theorem part25 {v2 : BitVec 32} {v5 : BitVec 32} {v6 : BitVec 32} (h : ∀ t ∈ ls, 2 < t.val / 8) {Φ : _ → sProp 𝕄} :
    iprop(core X K c ls (16 :: lf) (16 :: lr) ds dr
      ∗ holds c (bSl 0) fullShare.left (red2B X c 0)
      ∗ holds c (bSl 1) fullShare.left (red2B X c 1)
      ∗ holds c (bSl 2) fullShare.left (red2B X c 2)
      ∗ holds c (bSl 3) fullShare.left (red2B X c 3)
      ∗ written X c [mineA c])
      ⊢ iprop((iprop(core X K c ls lf lr (16 :: ds) (16 :: dr) ∗ holds c bM fullShare.left (stack (red2B X c)) ∗ written X c [rowsA c 0, mineB c, mineA c] ∗ holds c (aSl 0) fullShare.right (red2A X c 0) ∗ slotGot X c 16) -∗ Φ ⟨⟩)
        -∗ Runs c (k0_part25 xM (Memref.isWhole_whole _) oM (Memref.isWhole_whole _) aM (Memref.isWhole_whole _) bM (Memref.isWhole_whole _)
        lM (Memref.isWhole_whole _) cc0_scratch3 cc0_scratch4 c v2 v5 v6) Φ) := by
  rw [k0_part25_eq_skeleton]
  unfold k0_part25_skel
  simp only [Prog.lift, Prog.bind_op, Prog.bind_ret, Prog.pure_eq_ret]
  iintro ⟨HC, HB0, HB1, HB2, HB3, HO⟩
  iintro Hk
  ihave HB := (acc_join c bM fullShare.left (red2B X c)) $$ [HB0 HB1 HB2 HB3]
  · isplitl [HB0]; · iexact HB0
    isplitl [HB1]; · iexact HB1
    isplitl [HB2]; · iexact HB2
    iexact HB3
  iapply (load_acc c bM (red2B X c)) $$ [HB]; · iexact HB
  iintro HB
  iapply (load_out X c) $$ [HO]; · iexact HO
  iintro %_ HO
  iapply (store_mineB X c rfl) $$ [HO]; · iexact HO
  iintro HO
  iapply (sent_piece X K c 16 (P := holds c (aSl 0) fullShare.right (red2A X c 0)) rfl rfl (sendSem_eq 16)) $$ [HC]; · iexact HC
  iintro ⟨HC, HA0r⟩
  iapply (step_recv X K c 16 h rfl (recvSem_eq 16)) $$ [HC]; · iexact HC
  iintro ⟨HC, HL16⟩
  iapply (load_slot X c 16) $$ [HL16]; · iexact HL16
  iintro HL16
  iapply (load_out X c) $$ [HO]; · iexact HO
  iintro %_ HO
  iapply (store_gotA X c 0 (cast_page 16 _ _)) $$ [HO]; · iexact HO
  iintro HO
  iapply (runs_ret c)
  ihave Hk := Hk $$ [HC HB HO HA0r HL16]
  · isplitl [HC]; · iexact HC
    isplitl [HB]; · iexact HB
    isplitl [HO]; · iexact HO
    isplitl [HA0r]; · iexact HA0r
    iexact HL16
  iapply Hk

theorem part26 {v2 : BitVec 32} {v5 : BitVec 32} {v7 : BitVec 32} (h : ∀ t ∈ ls, 2 < t.val / 8) {Φ : _ → sProp 𝕄} :
    iprop(core X K c ls (20 :: lf) (20 :: lr) ds dr
      ∗ written X c [rowsA c 0, mineB c, mineA c])
      ⊢ iprop((iprop(core X K c ls lf lr (20 :: ds) (20 :: dr) ∗ holds c (bSl 0) fullShare.right (red2B X c 0) ∗ slotGot X c 20 ∗ written X c [rowsB c 0, rowsA c 0, mineB c, mineA c]) -∗ Φ ⟨⟩)
        -∗ Runs c (k0_part26 xM (Memref.isWhole_whole _) oM (Memref.isWhole_whole _) aM (Memref.isWhole_whole _) bM (Memref.isWhole_whole _)
        lM (Memref.isWhole_whole _) cc0_scratch3 cc0_scratch4 c v2 v5 v7) Φ) := by
  rw [k0_part26_eq_skeleton]
  unfold k0_part26_skel
  simp only [Prog.lift, Prog.bind_op, Prog.bind_ret, Prog.pure_eq_ret]
  iintro ⟨HC, HO⟩
  iintro Hk
  iapply (sent_piece X K c 20 (P := holds c (bSl 0) fullShare.right (red2B X c 0)) rfl rfl (sendSem_eq 20)) $$ [HC]; · iexact HC
  iintro ⟨HC, HB0r⟩
  iapply (step_recv X K c 20 h rfl (recvSem_eq 20)) $$ [HC]; · iexact HC
  iintro ⟨HC, HL20⟩
  iapply (load_slot X c 20) $$ [HL20]; · iexact HL20
  iintro HL20
  iapply (load_out X c) $$ [HO]; · iexact HO
  iintro %_ HO
  iapply (store_gotB X c 0 (cast_page 20 _ _)) $$ [HO]; · iexact HO
  iintro HO
  iapply (runs_ret c)
  ihave Hk := Hk $$ [HC HB0r HL20 HO]
  · isplitl [HC]; · iexact HC
    isplitl [HB0r]; · iexact HB0r
    isplitl [HL20]; · iexact HL20
    iexact HO
  iapply Hk

theorem part27 {v2 : BitVec 32} {v5 : BitVec 32} {v6 : BitVec 32} (h : ∀ t ∈ ls, 2 < t.val / 8) {Φ : _ → sProp 𝕄} :
    iprop(core X K c ls (17 :: 21 :: lf) (17 :: lr) ds dr
      ∗ written X c [rowsB c 0, rowsA c 0, mineB c, mineA c])
      ⊢ iprop((iprop(core X K c ls lf lr (21 :: 17 :: ds) (17 :: dr) ∗ holds c (aSl 1) fullShare.right (red2A X c 1) ∗ slotGot X c 17 ∗ written X c [rowsA c 1, rowsB c 0, rowsA c 0, mineB c, mineA c] ∗ holds c (bSl 1) fullShare.right (red2B X c 1)) -∗ ∀ v w, Φ ⟨v, w⟩)
        -∗ Runs c (k0_part27 xM (Memref.isWhole_whole _) oM (Memref.isWhole_whole _) aM (Memref.isWhole_whole _) bM (Memref.isWhole_whole _)
        lM (Memref.isWhole_whole _) cc0_scratch3 cc0_scratch4 c v2 v5 v6) Φ) := by
  rw [k0_part27_eq_skeleton]
  unfold k0_part27_skel
  simp only [Prog.lift, Prog.bind_op, Prog.bind_ret, Prog.pure_eq_ret]
  iintro ⟨HC, HO⟩
  iintro Hk
  iapply (sent_piece X K c 17 (P := holds c (aSl 1) fullShare.right (red2A X c 1)) rfl rfl (sendSem_eq 17)) $$ [HC]; · iexact HC
  iintro ⟨HC, HA1r⟩
  iapply (step_recv X K c 17 h rfl (recvSem_eq 17)) $$ [HC]; · iexact HC
  iintro ⟨HC, HL17⟩
  iapply (load_slot X c 17) $$ [HL17]; · iexact HL17
  iintro HL17
  iapply (load_out X c) $$ [HO]; · iexact HO
  iintro %_ HO
  iapply (store_gotA X c 1 (cast_page 17 _ _)) $$ [HO]; · iexact HO
  iintro HO
  iapply (sent_piece X K c 21 (P := holds c (bSl 1) fullShare.right (red2B X c 1)) rfl rfl (sendSem_eq 21)) $$ [HC]; · iexact HC
  iintro ⟨HC, HB1r⟩
  iapply (runs_ret c)
  ihave Hk := Hk $$ [HC HA1r HL17 HO HB1r]
  · isplitl [HC]; · iexact HC
    isplitl [HA1r]; · iexact HA1r
    isplitl [HL17]; · iexact HL17
    isplitl [HO]; · iexact HO
    iexact HB1r
  iapply Hk

theorem part28 {v5 : BitVec 32} {v6 : BitVec 32} {v7 : BitVec 32} {v760 : BitVec 32} {c1_i32_718 : BitVec 32} (h : ∀ t ∈ ls, 2 < t.val / 8) {Φ : _ → sProp 𝕄} :
    iprop(core X K c ls (18 :: lf) (21 :: lr) ds dr
      ∗ written X c [rowsA c 1, rowsB c 0, rowsA c 0, mineB c, mineA c])
      ⊢ iprop((iprop(core X K c ls lf lr (18 :: ds) (21 :: dr) ∗ slotGot X c 21 ∗ written X c [rowsB c 1, rowsA c 1, rowsB c 0, rowsA c 0, mineB c, mineA c] ∗ holds c (aSl 2) fullShare.right (red2A X c 2)) -∗ Φ ⟨⟩)
        -∗ Runs c (k0_part28 xM (Memref.isWhole_whole _) oM (Memref.isWhole_whole _) aM (Memref.isWhole_whole _) bM (Memref.isWhole_whole _)
        lM (Memref.isWhole_whole _) cc0_scratch3 cc0_scratch4 c v5 v6 v7 v760 c1_i32_718) Φ) := by
  rw [k0_part28_eq_skeleton]
  unfold k0_part28_skel
  simp only [Prog.lift, Prog.bind_op, Prog.bind_ret, Prog.pure_eq_ret]
  iintro ⟨HC, HO⟩
  iintro Hk
  iapply (step_recv X K c 21 h rfl (recvSem_eq 21)) $$ [HC]; · iexact HC
  iintro ⟨HC, HL21⟩
  iapply (load_slot X c 21) $$ [HL21]; · iexact HL21
  iintro HL21
  iapply (load_out X c) $$ [HO]; · iexact HO
  iintro %_ HO
  iapply (store_gotB X c 1 (cast_page 21 _ _)) $$ [HO]; · iexact HO
  iintro HO
  iapply (sent_piece X K c 18 (P := holds c (aSl 2) fullShare.right (red2A X c 2)) rfl rfl (sendSem_eq 18)) $$ [HC]; · iexact HC
  iintro ⟨HC, HA2r⟩
  iapply (runs_ret c)
  ihave Hk := Hk $$ [HC HL21 HO HA2r]
  · isplitl [HC]; · iexact HC
    isplitl [HL21]; · iexact HL21
    isplitl [HO]; · iexact HO
    iexact HA2r
  iapply Hk

theorem part29 {v2 : BitVec 32} {v5 : BitVec 32} {v7 : BitVec 32} (h : ∀ t ∈ ls, 2 < t.val / 8) {Φ : _ → sProp 𝕄} :
    iprop(core X K c ls (22 :: lf) (18 :: 22 :: lr) ds dr
      ∗ written X c [rowsB c 1, rowsA c 1, rowsB c 0, rowsA c 0, mineB c, mineA c])
      ⊢ iprop((iprop(core X K c ls lf lr (22 :: ds) (22 :: 18 :: dr) ∗ slotGot X c 18 ∗ written X c [rowsA c 2, rowsB c 1, rowsA c 1, rowsB c 0, rowsA c 0, mineB c, mineA c] ∗ holds c (bSl 2) fullShare.right (red2B X c 2) ∗ slotGot X c 22) -∗ ∀ v w, Φ ⟨red2B X (yn c) 2, v, w⟩)
        -∗ Runs c (k0_part29 xM (Memref.isWhole_whole _) oM (Memref.isWhole_whole _) aM (Memref.isWhole_whole _) bM (Memref.isWhole_whole _)
        lM (Memref.isWhole_whole _) cc0_scratch3 cc0_scratch4 c v2 v5 v7) Φ) := by
  rw [k0_part29_eq_skeleton]
  unfold k0_part29_skel
  simp only [Prog.lift, Prog.bind_op, Prog.bind_ret, Prog.pure_eq_ret]
  iintro ⟨HC, HO⟩
  iintro Hk
  iapply (step_recv X K c 18 h rfl (recvSem_eq 18)) $$ [HC]; · iexact HC
  iintro ⟨HC, HL18⟩
  iapply (load_slot X c 18) $$ [HL18]; · iexact HL18
  iintro HL18
  iapply (load_out X c) $$ [HO]; · iexact HO
  iintro %_ HO
  iapply (store_gotA X c 2 (cast_page 18 _ _)) $$ [HO]; · iexact HO
  iintro HO
  iapply (sent_piece X K c 22 (P := holds c (bSl 2) fullShare.right (red2B X c 2)) rfl rfl (sendSem_eq 22)) $$ [HC]; · iexact HC
  iintro ⟨HC, HB2r⟩
  iapply (step_recv X K c 22 h rfl (recvSem_eq 22)) $$ [HC]; · iexact HC
  iintro ⟨HC, HL22⟩
  iapply (load_slot X c 22) $$ [HL22]; · iexact HL22
  iintro HL22
  iapply (runs_ret c)
  rw [show k0_pay24 (page 22 (sent X (peer 22 c) 22)) = red2B X (yn c) 2 from cast_page 22 _ _]
  ihave Hk := Hk $$ [HC HL18 HO HB2r HL22]
  · isplitl [HC]; · iexact HC
    isplitl [HL18]; · iexact HL18
    isplitl [HO]; · iexact HO
    isplitl [HB2r]; · iexact HB2r
    iexact HL22
  iapply Hk

theorem part30 {v2 : BitVec 32} {v5 : BitVec 32} {v6 : BitVec 32} {v812 : FVec F S64x512 .f32} {v813 : BitVec 32} {c256_i32_775 : BitVec 32} (h : ∀ t ∈ ls, 2 < t.val / 8) (hw : v812 = red2B X (yn c) 2) {Φ : _ → sProp 𝕄} :
    iprop(core X K c ls (19 :: lf) (19 :: lr) ds dr
      ∗ written X c [rowsA c 2, rowsB c 1, rowsA c 1, rowsB c 0, rowsA c 0, mineB c, mineA c])
      ⊢ iprop((iprop(core X K c ls lf lr (19 :: ds) (19 :: dr) ∗ written X c [rowsA c 3, rowsB c 2, rowsA c 2, rowsB c 1, rowsA c 1, rowsB c 0, rowsA c 0, mineB c, mineA c] ∗ holds c (aSl 3) fullShare.right (red2A X c 3) ∗ slotGot X c 19) -∗ Φ ⟨⟩)
        -∗ Runs c (k0_part30 xM (Memref.isWhole_whole _) oM (Memref.isWhole_whole _) aM (Memref.isWhole_whole _) bM (Memref.isWhole_whole _)
        lM (Memref.isWhole_whole _) cc0_scratch3 cc0_scratch4 c v2 v5 v6 v812 v813 c256_i32_775) Φ) := by
  rw [k0_part30_eq_skeleton]
  unfold k0_part30_skel
  simp only [Prog.lift, Prog.bind_op, Prog.bind_ret, Prog.pure_eq_ret]
  iintro ⟨HC, HO⟩
  iintro Hk
  iapply (load_out X c) $$ [HO]; · iexact HO
  iintro %_ HO
  iapply (store_gotB X c 2 (hw)) $$ [HO]; · iexact HO
  iintro HO
  iapply (sent_piece X K c 19 (P := holds c (aSl 3) fullShare.right (red2A X c 3)) rfl rfl (sendSem_eq 19)) $$ [HC]; · iexact HC
  iintro ⟨HC, HA3r⟩
  iapply (step_recv X K c 19 h rfl (recvSem_eq 19)) $$ [HC]; · iexact HC
  iintro ⟨HC, HL19⟩
  iapply (load_slot X c 19) $$ [HL19]; · iexact HL19
  iintro HL19
  iapply (load_out X c) $$ [HO]; · iexact HO
  iintro %_ HO
  iapply (store_gotA X c 3 (cast_page 19 _ _)) $$ [HO]; · iexact HO
  iintro HO
  iapply (runs_ret c)
  ihave Hk := Hk $$ [HC HO HA3r HL19]
  · isplitl [HC]; · iexact HC
    isplitl [HO]; · iexact HO
    isplitl [HA3r]; · iexact HA3r
    iexact HL19
  iapply Hk

end Cert.KernelIdeal.Run
-- ==== Proof.Body.lean ====
/-
The whole kernel on one device: from the cells dealt to it and its buffers, to its result staged and every cell closed.
-/
module

public import proofs.«01_k».proof.Proof.Parts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp (F := F)) (K : Dev nD × Cix → ℕ) (c : Dev nD)

/-- A program followed by another. -/
theorem runs_bind {α β : Type} {p : Prog (TpuEff nD τ sig (Elt F) Λ₀ .tc) α} {k : α → Prog (TpuEff nD τ sig (Elt F) Λ₀ .tc) β} {Q : β → sProp 𝕄} :
    Runs c p (fun a => Runs c (k a) Q) ⊢ Runs c (p >>= k) Q := by
  unfold Runs
  rw [wp_bind]

theorem core_flight {ls lf lf' lr ds dr : List Slot} (e : lf = lf') : core X K c ls lf lr ds dr ⊢ core X K c ls lf' lr ds dr := by rw [e]

/-- A program's end, its value matched on. -/
theorem runs_done {α : Type} {a : α} {Φ : α → sProp 𝕄} : Φ a ⊢ Runs c (Prog.ret a) Φ := runs_ret c a Φ

/-- The left half of an accumulator and the right halves of its chunks. -/
theorem acc_back (M : Memref sig .tc .vmem S256x512 .f32) (v : Fin 4 → Blk (F := F)) :
    iprop(holds c M fullShare.left (stack v) ∗ holds c (M.slice (chunkR 0) (fun _ => rfl)) fullShare.right (v 0)
      ∗ holds c (M.slice (chunkR 1) (fun _ => rfl)) fullShare.right (v 1) ∗ holds c (M.slice (chunkR 2) (fun _ => rfl)) fullShare.right (v 2)
      ∗ holds c (M.slice (chunkR 3) (fun _ => rfl)) fullShare.right (v 3)) ⊢ junk c M := by
  iintro ⟨HL, H0, H1, H2, H3⟩
  iapply (holds_junk c M (stack v))
  iapply (holds_halves c M (stack v)).2
  isplitl [HL]; · iexact HL
  iapply (acc_join c M fullShare.right v)
  isplitl [H0]; · iexact H0
  isplitl [H1]; · iexact H1
  isplitl [H2]; · iexact H2
  iexact H3

/-- The landing buffer from its pages. -/
theorem land_back : iprop(slotGot X c 0 ∗ slotGot X c 1 ∗ slotGot X c 2 ∗ slotGot X c 3 ∗ slotGot X c 4 ∗ slotGot X c 5 ∗ slotGot X c 6 ∗ slotGot X c 7 ∗ slotGot X c 8 ∗ slotGot X c 9 ∗ slotGot X c 10 ∗ slotGot X c 11 ∗ slotGot X c 12 ∗ slotGot X c 13 ∗ slotGot X c 14 ∗ slotGot X c 15 ∗ slotGot X c 16 ∗ slotGot X c 17 ∗ slotGot X c 18 ∗ slotGot X c 19 ∗ slotGot X c 20 ∗ slotGot X c 21 ∗ slotGot X c 22 ∗ slotGot X c 23) ⊢ (iprop(∃ f, (c : Thread nD τ).loc cc0_scratch2 ↦{fullShare} f) : sProp 𝕄) := by
  refine BI.Entails.trans ?_ (land_close X c)
  rw [bigSep_univ_eq_bigSepL [0, 1, 2, 3, 4, 5, 6, 7, 8, 9, 10, 11, 12, 13, 14, 15, 16, 17, 18, 19, 20, 21, 22, 23] (by decide) (by decide)]
  exact BI.Entails.refl _

/-- What the kernel takes: its block, a result buffer and two accumulators at any contents, and its part of the protocol. -/
def before : sProp 𝕄 :=
  iprop(entry X K c ∗ ((c : Thread nD τ).loc cc0_stg0_0 ↦{fullShare} X c) ∗ (∃ f, (c : Thread nD τ).loc cc0_stg1_0 ↦{fullShare} f)
    ∗ junk c aM ∗ junk c bM)

/-- The order the transfers are closed in, last first. -/
abbrev closed : List Slot := [23, 19, 22, 18, 21, 17, 20, 16, 15, 11, 14, 10, 13, 9, 12, 8, 7, 3, 6, 2, 5, 1, 4, 0]

/-- What it leaves: its block, the result, the other buffers at some contents, and every cell closed. -/
def after : sProp 𝕄 :=
  iprop(core X K c [] [] [] closed closed ∗ semVal (barCell c) 0
    ∗ ((c : Thread nD τ).loc cc0_stg0_0 ↦{fullShare} X c) ∗ ((c : Thread nD τ).loc cc0_stg1_0 ↦{fullShare} outV X c)
    ∗ junk c aM ∗ junk c bM ∗ (∃ f, (c : Thread nD τ).loc cc0_scratch2 ↦{fullShare} f))

set_option maxRecDepth 20000
set_option maxHeartbeats 2000000

theorem body {Φ : _ → sProp 𝕄} :
    before X K c ⊢ iprop((after X K c -∗ Φ ⟨⟩)
      -∗ Runs c (cc0_body xM (Memref.isWhole_whole _) oM (Memref.isWhole_whole _) aM (Memref.isWhole_whole _) bM (Memref.isWhole_whole _)
        lM (Memref.isWhole_whole _) cc0_scratch3 cc0_scratch4) Φ) := by
  rw [cc0_body_eq_skeleton]
  unfold cc0_body_skel
  rw [k0_part31_eq_skeleton]
  unfold k0_part31_skel
  simp only [Prog.lift, Prog.bind_op, Prog.bind_ret, Prog.pure_eq_ret]
  unfold before
  iintro ⟨HE, HX, ⟨%f, HO⟩, HA, HB⟩
  iintro Hk
  ihave HX := (x_cut X c).1 $$ HX
  icases HX with ⟨HX, HXr, HS0, HS1, HS2, HS3, HS4, HS5, HS6, HS7⟩
  ihave HA := (acc_open c aM) $$ HA
  icases HA with ⟨HA0, HA1, HA2, HA3⟩
  ihave HB := (acc_open c bM) $$ HB
  icases HB with ⟨HB0, HB1, HB2, HB3⟩
  ihave HO := (written_none X c f) $$ HO
  iapply (runs_bind c)
  iapply (runs_bind c)
  iapply (part1 X K c) $$ HE
  iintro ⟨HC, Hz⟩ %v2 %v5 %v6 %v7 %v25 %v26
  iapply (runs_bind c)
  iapply (part2 X K c (ls := [1, 5, 2, 6, 3, 7, 8, 12, 9, 13, 10, 14, 11, 15, 16, 20, 17, 21, 18, 22, 19, 23]) (lf := []) (lr := [0, 4, 1, 5, 2, 6, 3, 7, 8, 12, 9, 13, 10, 14, 11, 15, 16, 20, 17, 21, 18, 22, 19, 23]) (ds := []) (dr := [])) $$ [HC HS0 HS4]
  · isplitl [HC]; · iexact HC
    isplitl [HS0]; · iexact HS0
    iexact HS4
  iintro HC
  ihave HC := (core_flight X K c (lf := [] ++ [0] ++ [4]) (lf' := [0, 4]) rfl) $$ HC
  iapply (runs_bind c)
  iapply (part3 X K c (ls := [2, 6, 3, 7, 8, 12, 9, 13, 10, 14, 11, 15, 16, 20, 17, 21, 18, 22, 19, 23]) (lf := [0, 4]) (lr := [0, 4, 1, 5, 2, 6, 3, 7, 8, 12, 9, 13, 10, 14, 11, 15, 16, 20, 17, 21, 18, 22, 19, 23]) (ds := []) (dr := [])) $$ [HC HS1 HS5]
  · isplitl [HC]; · iexact HC
    isplitl [HS1]; · iexact HS1
    iexact HS5
  iintro HC
  ihave HC := (core_flight X K c (lf := [0, 4] ++ [1] ++ [5]) (lf' := [0, 4, 1, 5]) rfl) $$ HC
  iapply (runs_bind c)
  iapply (part4 X K c (ls := [7, 8, 12, 9, 13, 10, 14, 11, 15, 16, 20, 17, 21, 18, 22, 19, 23]) (lf := [0, 4, 1, 5]) (lr := [0, 4, 1, 5, 2, 6, 3, 7, 8, 12, 9, 13, 10, 14, 11, 15, 16, 20, 17, 21, 18, 22, 19, 23]) (ds := []) (dr := [])) $$ [HC HS2 HS6 HS3]
  · isplitl [HC]; · iexact HC
    isplitl [HS2]; · iexact HS2
    isplitl [HS6]; · iexact HS6
    iexact HS3
  iintro HC
  ihave HC := (core_flight X K c (lf := [0, 4, 1, 5] ++ [2] ++ [6] ++ [3]) (lf' := [0, 4, 1, 5, 2, 6, 3]) rfl) $$ HC
  iapply (runs_bind c)
  iapply (part5 X K c (ls := [8, 12, 9, 13, 10, 14, 11, 15, 16, 20, 17, 21, 18, 22, 19, 23]) (lf := [4, 1, 5, 2, 6, 3]) (lr := [4, 1, 5, 2, 6, 3, 7, 8, 12, 9, 13, 10, 14, 11, 15, 16, 20, 17, 21, 18, 22, 19, 23]) (ds := []) (dr := []) (by decide)) $$ [HC HS7 HX]
  · isplitl [HC]; · iexact HC
    isplitl [HS7]; · iexact HS7
    iexact HX
  iintro ⟨HC, HS0, HL0, HX⟩
  ihave HC := (core_flight X K c (lf := [4, 1, 5, 2, 6, 3] ++ [7]) (lf' := [4, 1, 5, 2, 6, 3, 7]) rfl) $$ HC
  iapply (runs_bind c)
  iapply (part6 X K c (ls := [12, 9, 13, 10, 14, 11, 15, 16, 20, 17, 21, 18, 22, 19, 23]) (lf := [1, 5, 2, 6, 3, 7]) (lr := [4, 1, 5, 2, 6, 3, 7, 8, 12, 9, 13, 10, 14, 11, 15, 16, 20, 17, 21, 18, 22, 19, 23]) (ds := [0]) (dr := [0])) $$ [HC HL0 HA0]
  · isplitl [HC]; · iexact HC
    isplitl [HL0]; · iexact HL0
    iexact HA0
  iintro ⟨HC, HL0, HS4⟩
  ihave HC := (core_flight X K c (lf := [1, 5, 2, 6, 3, 7] ++ [8]) (lf' := [1, 5, 2, 6, 3, 7, 8]) rfl) $$ HC
  iapply (runs_bind c)
  iapply (part7 X K c (ls := [9, 13, 10, 14, 11, 15, 16, 20, 17, 21, 18, 22, 19, 23]) (lf := [1, 5, 2, 6, 3, 7, 8]) (lr := [1, 5, 2, 6, 3, 7, 8, 12, 9, 13, 10, 14, 11, 15, 16, 20, 17, 21, 18, 22, 19, 23]) (ds := [4, 0]) (dr := [0]) (by decide)) $$ [HC HX HB0]
  · isplitl [HC]; · iexact HC
    isplitl [HX]; · iexact HX
    iexact HB0
  iintro ⟨HC, HL4, HX⟩
  ihave HC := (core_flight X K c (lf := [1, 5, 2, 6, 3, 7, 8] ++ [12]) (lf' := [1, 5, 2, 6, 3, 7, 8, 12]) rfl) $$ HC
  iapply (runs_bind c)
  iapply (part8 X K c (ls := [9, 13, 10, 14, 11, 15, 16, 20, 17, 21, 18, 22, 19, 23]) (lf := [5, 2, 6, 3, 7, 8, 12]) (lr := [5, 2, 6, 3, 7, 8, 12, 9, 13, 10, 14, 11, 15, 16, 20, 17, 21, 18, 22, 19, 23]) (ds := [4, 0]) (dr := [4, 0]) (by decide)) $$ [HC HX HA1]
  · isplitl [HC]; · iexact HC
    isplitl [HX]; · iexact HX
    iexact HA1
  iintro ⟨HC, HS1, HL1, HX, HA1⟩
  iapply (runs_bind c)
  iapply (part9 X K c (ls := [13, 10, 14, 11, 15, 16, 20, 17, 21, 18, 22, 19, 23]) (lf := [2, 6, 3, 7, 8, 12]) (lr := [2, 6, 3, 7, 8, 12, 9, 13, 10, 14, 11, 15, 16, 20, 17, 21, 18, 22, 19, 23]) (ds := [1, 4, 0]) (dr := [1, 4, 0]) (by decide)) $$ [HC HA1 HX HB1]
  · isplitl [HC]; · iexact HC
    isplitl [HA1]; · iexact HA1
    isplitl [HX]; · iexact HX
    iexact HB1
  iintro ⟨HC, HS5, HL5, HX, HB1⟩
  ihave HC := (core_flight X K c (lf := [2, 6, 3, 7, 8, 12] ++ [9]) (lf' := [2, 6, 3, 7, 8, 12, 9]) rfl) $$ HC
  iapply (runs_bind c)
  iapply (part10 X K c (ls := [10, 14, 11, 15, 16, 20, 17, 21, 18, 22, 19, 23]) (lf := [6, 3, 7, 8, 12, 9]) (lr := [6, 3, 7, 8, 12, 9, 13, 10, 14, 11, 15, 16, 20, 17, 21, 18, 22, 19, 23]) (ds := [5, 1, 4, 0]) (dr := [5, 1, 4, 0]) (by decide)) $$ [HC HB1 HX]
  · isplitl [HC]; · iexact HC
    isplitl [HB1]; · iexact HB1
    iexact HX
  iintro ⟨HC, HS2, HL2, HX⟩
  ihave HC := (core_flight X K c (lf := [6, 3, 7, 8, 12, 9] ++ [13]) (lf' := [6, 3, 7, 8, 12, 9, 13]) rfl) $$ HC
  iapply (runs_bind c)
  iapply (part11 X K c (ls := [14, 11, 15, 16, 20, 17, 21, 18, 22, 19, 23]) (lf := [3, 7, 8, 12, 9, 13]) (lr := [6, 3, 7, 8, 12, 9, 13, 10, 14, 11, 15, 16, 20, 17, 21, 18, 22, 19, 23]) (ds := [2, 5, 1, 4, 0]) (dr := [2, 5, 1, 4, 0])) $$ [HC HL2 HA2]
  · isplitl [HC]; · iexact HC
    isplitl [HL2]; · iexact HL2
    iexact HA2
  iintro ⟨HC, HL2, HS6⟩
  ihave HC := (core_flight X K c (lf := [3, 7, 8, 12, 9, 13] ++ [10]) (lf' := [3, 7, 8, 12, 9, 13, 10]) rfl) $$ HC
  iapply (runs_bind c)
  iapply (part12 X K c (ls := [11, 15, 16, 20, 17, 21, 18, 22, 19, 23]) (lf := [3, 7, 8, 12, 9, 13, 10]) (lr := [3, 7, 8, 12, 9, 13, 10, 14, 11, 15, 16, 20, 17, 21, 18, 22, 19, 23]) (ds := [6, 2, 5, 1, 4, 0]) (dr := [2, 5, 1, 4, 0]) (by decide)) $$ [HC HX HB2]
  · isplitl [HC]; · iexact HC
    isplitl [HX]; · iexact HX
    iexact HB2
  iintro ⟨HC, HL6, HX⟩
  ihave HC := (core_flight X K c (lf := [3, 7, 8, 12, 9, 13, 10] ++ [14]) (lf' := [3, 7, 8, 12, 9, 13, 10, 14]) rfl) $$ HC
  iapply (runs_bind c)
  iapply (part13 X K c (ls := [11, 15, 16, 20, 17, 21, 18, 22, 19, 23]) (lf := [7, 8, 12, 9, 13, 10, 14]) (lr := [7, 8, 12, 9, 13, 10, 14, 11, 15, 16, 20, 17, 21, 18, 22, 19, 23]) (ds := [6, 2, 5, 1, 4, 0]) (dr := [6, 2, 5, 1, 4, 0]) (by decide)) $$ [HC HX HA3]
  · isplitl [HC]; · iexact HC
    isplitl [HX]; · iexact HX
    iexact HA3
  iintro ⟨HC, HS3, HL3, HX, HA3⟩
  iapply (runs_bind c)
  iapply (part14 X K c (ls := [15, 16, 20, 17, 21, 18, 22, 19, 23]) (lf := [8, 12, 9, 13, 10, 14]) (lr := [8, 12, 9, 13, 10, 14, 11, 15, 16, 20, 17, 21, 18, 22, 19, 23]) (ds := [3, 6, 2, 5, 1, 4, 0]) (dr := [3, 6, 2, 5, 1, 4, 0]) (by decide)) $$ [HC HA3 HX HB3]
  · isplitl [HC]; · iexact HC
    isplitl [HA3]; · iexact HA3
    isplitl [HX]; · iexact HX
    iexact HB3
  iintro ⟨HC, HS7, HL7, HX, HB3⟩
  ihave HC := (core_flight X K c (lf := [8, 12, 9, 13, 10, 14] ++ [11]) (lf' := [8, 12, 9, 13, 10, 14, 11]) rfl) $$ HC
  iapply (runs_bind c)
  iapply (part15 X K c (ls := [16, 20, 17, 21, 18, 22, 19, 23]) (lf := [12, 9, 13, 10, 14, 11]) (lr := [12, 9, 13, 10, 14, 11, 15, 16, 20, 17, 21, 18, 22, 19, 23]) (ds := [7, 3, 6, 2, 5, 1, 4, 0]) (dr := [7, 3, 6, 2, 5, 1, 4, 0]) (by decide)) $$ [HC HB3]
  · isplitl [HC]; · iexact HC
    iexact HB3
  iintro ⟨HC, HA0, HL8⟩
  ihave HC := (core_flight X K c (lf := [12, 9, 13, 10, 14, 11] ++ [15]) (lf' := [12, 9, 13, 10, 14, 11, 15]) rfl) $$ HC
  iapply (runs_bind c)
  iapply (part16 X K c (ls := [20, 17, 21, 18, 22, 19, 23]) (lf := [9, 13, 10, 14, 11, 15]) (lr := [12, 9, 13, 10, 14, 11, 15, 16, 20, 17, 21, 18, 22, 19, 23]) (ds := [8, 7, 3, 6, 2, 5, 1, 4, 0]) (dr := [8, 7, 3, 6, 2, 5, 1, 4, 0])) $$ [HC HL8 HA0]
  · isplitl [HC]; · iexact HC
    isplitl [HL8]; · iexact HL8
    iexact HA0
  iintro ⟨HC, HL8, HA0, HB0⟩
  ihave HC := (core_flight X K c (lf := [9, 13, 10, 14, 11, 15] ++ [16]) (lf' := [9, 13, 10, 14, 11, 15, 16]) rfl) $$ HC
  iapply (runs_bind c)
  iapply (part17 X K c (ls := [17, 21, 18, 22, 19, 23]) (lf := [13, 10, 14, 11, 15, 16]) (lr := [9, 13, 10, 14, 11, 15, 16, 20, 17, 21, 18, 22, 19, 23]) (ds := [12, 8, 7, 3, 6, 2, 5, 1, 4, 0]) (dr := [8, 7, 3, 6, 2, 5, 1, 4, 0]) (by decide)) $$ [HC HB0]
  · isplitl [HC]; · iexact HC
    iexact HB0
  iintro ⟨HC, HL12, HB0, HA1⟩
  ihave HC := (core_flight X K c (lf := [13, 10, 14, 11, 15, 16] ++ [20]) (lf' := [13, 10, 14, 11, 15, 16, 20]) rfl) $$ HC
  iapply (runs_bind c)
  iapply (part18 X K c (ls := [21, 18, 22, 19, 23]) (lf := [13, 10, 14, 11, 15, 16, 20]) (lr := [13, 10, 14, 11, 15, 16, 20, 17, 21, 18, 22, 19, 23]) (ds := [9, 12, 8, 7, 3, 6, 2, 5, 1, 4, 0]) (dr := [12, 8, 7, 3, 6, 2, 5, 1, 4, 0]) (by decide)) $$ [HC HA1]
  · isplitl [HC]; · iexact HC
    iexact HA1
  iintro ⟨HC, HL9, HA1⟩
  ihave HC := (core_flight X K c (lf := [13, 10, 14, 11, 15, 16, 20] ++ [17]) (lf' := [13, 10, 14, 11, 15, 16, 20, 17]) rfl) $$ HC
  iapply (runs_bind c)
  iapply (part19 X K c (ls := [21, 18, 22, 19, 23]) (lf := [10, 14, 11, 15, 16, 20, 17]) (lr := [10, 14, 11, 15, 16, 20, 17, 21, 18, 22, 19, 23]) (ds := [9, 12, 8, 7, 3, 6, 2, 5, 1, 4, 0]) (dr := [9, 12, 8, 7, 3, 6, 2, 5, 1, 4, 0]) (by decide)) $$ HC
  iintro ⟨HC, HB1, HL13⟩
  iapply (runs_bind c)
  iapply (part20 X K c (ls := [18, 22, 19, 23]) (lf := [14, 11, 15, 16, 20, 17]) (lr := [14, 11, 15, 16, 20, 17, 21, 18, 22, 19, 23]) (ds := [13, 9, 12, 8, 7, 3, 6, 2, 5, 1, 4, 0]) (dr := [13, 9, 12, 8, 7, 3, 6, 2, 5, 1, 4, 0]) (by decide)) $$ [HC HB1]
  · isplitl [HC]; · iexact HC
    iexact HB1
  iintro ⟨HC, HB1, HA2, HL10⟩ %v20 %w20
  ihave HC := (core_flight X K c (lf := [14, 11, 15, 16, 20, 17] ++ [21]) (lf' := [14, 11, 15, 16, 20, 17, 21]) rfl) $$ HC
  iapply (runs_bind c)
  iapply (part21 X K c (ls := [22, 19, 23]) (lf := [11, 15, 16, 20, 17, 21]) (lr := [11, 15, 16, 20, 17, 21, 18, 22, 19, 23]) (ds := [10, 13, 9, 12, 8, 7, 3, 6, 2, 5, 1, 4, 0]) (dr := [10, 13, 9, 12, 8, 7, 3, 6, 2, 5, 1, 4, 0]) (by decide)) $$ [HC HA2]
  · isplitl [HC]; · iexact HC
    iexact HA2
  iintro ⟨HC, HA2, HB2, HL14⟩
  ihave HC := (core_flight X K c (lf := [11, 15, 16, 20, 17, 21] ++ [18]) (lf' := [11, 15, 16, 20, 17, 21, 18]) rfl) $$ HC
  iapply (runs_bind c)
  iapply (part22 X K c (ls := [19, 23]) (lf := [15, 16, 20, 17, 21, 18]) (lr := [11, 15, 16, 20, 17, 21, 18, 22, 19, 23]) (ds := [14, 10, 13, 9, 12, 8, 7, 3, 6, 2, 5, 1, 4, 0]) (dr := [14, 10, 13, 9, 12, 8, 7, 3, 6, 2, 5, 1, 4, 0]) rfl) $$ [HC HB2]
  · isplitl [HC]; · iexact HC
    iexact HB2
  iintro ⟨HC, HB2, HA3⟩
  ihave HC := (core_flight X K c (lf := [15, 16, 20, 17, 21, 18] ++ [22]) (lf' := [15, 16, 20, 17, 21, 18, 22]) rfl) $$ HC
  iapply (runs_bind c)
  iapply (part23 X K c (ls := [23]) (lf := [16, 20, 17, 21, 18, 22]) (lr := [15, 16, 20, 17, 21, 18, 22, 19, 23]) (ds := [11, 14, 10, 13, 9, 12, 8, 7, 3, 6, 2, 5, 1, 4, 0]) (dr := [14, 10, 13, 9, 12, 8, 7, 3, 6, 2, 5, 1, 4, 0]) (by decide)) $$ [HC HA3]
  · isplitl [HC]; · iexact HC
    iexact HA3
  iintro ⟨HC, HL11, HA3, HB3⟩ %v23 %w23
  ihave HC := (core_flight X K c (lf := [16, 20, 17, 21, 18, 22] ++ [19]) (lf' := [16, 20, 17, 21, 18, 22, 19]) rfl) $$ HC
  iapply (runs_bind c)
  iapply (part24 X K c (ls := []) (lf := [16, 20, 17, 21, 18, 22, 19]) (lr := [16, 20, 17, 21, 18, 22, 19, 23]) (ds := [15, 11, 14, 10, 13, 9, 12, 8, 7, 3, 6, 2, 5, 1, 4, 0]) (dr := [11, 14, 10, 13, 9, 12, 8, 7, 3, 6, 2, 5, 1, 4, 0]) (by decide)) $$ [HC HB3 HA0 HA1 HA2 HA3 HO]
  · isplitl [HC]; · iexact HC
    isplitl [HB3]; · iexact HB3
    isplitl [HA0]; · iexact HA0
    isplitl [HA1]; · iexact HA1
    isplitl [HA2]; · iexact HA2
    isplitl [HA3]; · iexact HA3
    iexact HO
  iintro ⟨HC, HL15, HB3, HA, HO⟩
  ihave HC := (core_flight X K c (lf := [16, 20, 17, 21, 18, 22, 19] ++ [23]) (lf' := [16, 20, 17, 21, 18, 22, 19, 23]) rfl) $$ HC
  iapply (runs_bind c)
  iapply (part25 X K c (ls := []) (lf := [20, 17, 21, 18, 22, 19, 23]) (lr := [20, 17, 21, 18, 22, 19, 23]) (ds := [15, 11, 14, 10, 13, 9, 12, 8, 7, 3, 6, 2, 5, 1, 4, 0]) (dr := [15, 11, 14, 10, 13, 9, 12, 8, 7, 3, 6, 2, 5, 1, 4, 0]) (by decide)) $$ [HC HB0 HB1 HB2 HB3 HO]
  · isplitl [HC]; · iexact HC
    isplitl [HB0]; · iexact HB0
    isplitl [HB1]; · iexact HB1
    isplitl [HB2]; · iexact HB2
    isplitl [HB3]; · iexact HB3
    iexact HO
  iintro ⟨HC, HB, HO, HA0r, HL16⟩
  iapply (runs_bind c)
  iapply (part26 X K c (ls := []) (lf := [17, 21, 18, 22, 19, 23]) (lr := [17, 21, 18, 22, 19, 23]) (ds := [16, 15, 11, 14, 10, 13, 9, 12, 8, 7, 3, 6, 2, 5, 1, 4, 0]) (dr := [16, 15, 11, 14, 10, 13, 9, 12, 8, 7, 3, 6, 2, 5, 1, 4, 0]) (by decide)) $$ [HC HO]
  · isplitl [HC]; · iexact HC
    iexact HO
  iintro ⟨HC, HB0r, HL20, HO⟩
  iapply (runs_bind c)
  iapply (part27 X K c (ls := []) (lf := [18, 22, 19, 23]) (lr := [21, 18, 22, 19, 23]) (ds := [20, 16, 15, 11, 14, 10, 13, 9, 12, 8, 7, 3, 6, 2, 5, 1, 4, 0]) (dr := [20, 16, 15, 11, 14, 10, 13, 9, 12, 8, 7, 3, 6, 2, 5, 1, 4, 0]) (by decide)) $$ [HC HO]
  · isplitl [HC]; · iexact HC
    iexact HO
  iintro ⟨HC, HA1r, HL17, HO, HB1r⟩ %v27 %w27
  iapply (runs_bind c)
  iapply (part28 X K c (ls := []) (lf := [22, 19, 23]) (lr := [18, 22, 19, 23]) (ds := [21, 17, 20, 16, 15, 11, 14, 10, 13, 9, 12, 8, 7, 3, 6, 2, 5, 1, 4, 0]) (dr := [17, 20, 16, 15, 11, 14, 10, 13, 9, 12, 8, 7, 3, 6, 2, 5, 1, 4, 0]) (by decide)) $$ [HC HO]
  · isplitl [HC]; · iexact HC
    iexact HO
  iintro ⟨HC, HL21, HO, HA2r⟩
  iapply (runs_bind c)
  iapply (part29 X K c (ls := []) (lf := [19, 23]) (lr := [19, 23]) (ds := [18, 21, 17, 20, 16, 15, 11, 14, 10, 13, 9, 12, 8, 7, 3, 6, 2, 5, 1, 4, 0]) (dr := [21, 17, 20, 16, 15, 11, 14, 10, 13, 9, 12, 8, 7, 3, 6, 2, 5, 1, 4, 0]) (by decide)) $$ [HC HO]
  · isplitl [HC]; · iexact HC
    iexact HO
  iintro ⟨HC, HL18, HO, HB2r, HL22⟩ %v29 %w29
  iapply (runs_bind c)
  iapply (part30 X K c (ls := []) (lf := [23]) (lr := [23]) (ds := [22, 18, 21, 17, 20, 16, 15, 11, 14, 10, 13, 9, 12, 8, 7, 3, 6, 2, 5, 1, 4, 0]) (dr := [22, 18, 21, 17, 20, 16, 15, 11, 14, 10, 13, 9, 12, 8, 7, 3, 6, 2, 5, 1, 4, 0]) (by decide) rfl) $$ [HC HO]
  · isplitl [HC]; · iexact HC
    iexact HO
  iintro ⟨HC, HO, HA3r, HL19⟩
  iapply (sent_piece X K c 23 (P := holds c (bSl 3) fullShare.right (red2B X c 3)) rfl rfl (sendSem_eq 23)) $$ HC
  iintro ⟨HC, HB3r⟩
  iapply (runs_done c)
  iapply (step_recv X K c 23 (by decide) rfl (recvSem_eq 23)) $$ HC
  iintro ⟨HC, HL23⟩
  iapply (load_slot X c 23) $$ HL23
  iintro HL23
  iapply (load_out X c) $$ HO
  iintro %_ HO
  iapply (store_gotB X c 3 (cast_page 23 _ _)) $$ HO
  iintro HO
  iapply (runs_done c)
  iapply Hk
  unfold after
  isplitl [HC]; · iexact HC
  isplitl [Hz]; · iexact Hz
  isplitl [HX HXr HS0 HS1 HS2 HS3 HS4 HS5 HS6 HS7]
  · iapply (x_cut X c).2
    isplitl [HX]; · iexact HX
    isplitl [HXr]; · iexact HXr
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [HO]
  · iapply (written_all X c)
    iexact HO
  isplitl [HA HA0r HA1r HA2r HA3r]
  · iapply (acc_back c aM (red2A X c))
    isplitl [HA]; · iexact HA
    isplitl [HA0r]; · iexact HA0r
    isplitl [HA1r]; · iexact HA1r
    isplitl [HA2r]; · iexact HA2r
    iexact HA3r
  isplitl [HB HB0r HB1r HB2r HB3r]
  · iapply (acc_back c bM (red2B X c))
    isplitl [HB]; · iexact HB
    isplitl [HB0r]; · iexact HB0r
    isplitl [HB1r]; · iexact HB1r
    isplitl [HB2r]; · iexact HB2r
    iexact HB3r
  iapply (land_back X c)
  isplitl [HL0]; · iexact HL0
  isplitl [HL1]; · iexact HL1
  isplitl [HL2]; · iexact HL2
  isplitl [HL3]; · iexact HL3
  isplitl [HL4]; · iexact HL4
  isplitl [HL5]; · iexact HL5
  isplitl [HL6]; · iexact HL6
  isplitl [HL7]; · iexact HL7
  isplitl [HL8]; · iexact HL8
  isplitl [HL9]; · iexact HL9
  isplitl [HL10]; · iexact HL10
  isplitl [HL11]; · iexact HL11
  isplitl [HL12]; · iexact HL12
  isplitl [HL13]; · iexact HL13
  isplitl [HL14]; · iexact HL14
  isplitl [HL15]; · iexact HL15
  isplitl [HL16]; · iexact HL16
  isplitl [HL17]; · iexact HL17
  isplitl [HL18]; · iexact HL18
  isplitl [HL19]; · iexact HL19
  isplitl [HL20]; · iexact HL20
  isplitl [HL21]; · iexact HL21
  isplitl [HL22]; · iexact HL22
  iexact HL23

end Cert.KernelIdeal.Run
-- ==== Proof.Deal.lean ====
/-
Dealing the protocol out at launch: every semaphore's cell is opened at once, its tokens go to the devices that spend
them, and each device is credited what the others owe it.
-/
module

public import proofs.«01_k».proof.Proof.Body
public import Idealize.ShloMosaic.Lib.Pipeline.CollectiveSegs
public import Idealize.ShloMosaic.Lib.Quiescent

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Semaphores, cells, tokens -/

/-- The kernel's own semaphores: a slot's send (`false`) and receive (`true`) semaphore. -/
abbrev Own : Type := Bool × Slot
def osem (p : Own) : SemLoc sig := .dma (if p.1 then recvSem p.2 else sendSem p.2)
abbrev ownCell (c : Dev nD) (p : Own) : GSem nD τ sig := ((c : Thread nD τ), osem p)

theorem csem_some (p : Own) : csem (some p) = osem p := by
  obtain ⟨b, s⟩ := p; cases b <;> rfl

theorem osem_injective : Function.Injective osem := by
  rintro ⟨b, s⟩ ⟨b', s'⟩ h
  have h' := congrArg role h
  unfold osem at h'
  cases b <;> cases b' <;> simp only [Bool.false_eq_true, if_true, if_false, role_snd, role_rcv] at h'
  · injection h' with e; rw [e]
  · cases h'
  · cases h'
  · injection h' with e; rw [e]

theorem csem_injective : Function.Injective csem := by
  intro k k' h
  cases k with
  | none =>
    cases k' with
    | none => rfl
    | some p => rw [csem_some] at h; cases h
  | some p =>
    cases k' with
    | none => rw [csem_some] at h; cases h
    | some p' => rw [csem_some, csem_some] at h; rw [osem_injective h]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- A device's tokens: its barrier's two, and one for each of its own semaphores. -/
abbrev Tok : Type := Bool ⊕ Own
def tokAt (p : Dev nD × Tok) : GSem nD τ sig × ℕ × Bool :=
  match p.2 with
  | .inl b => (barCell p.1, 0, b)
  | .inr q => (ownCell p.1 q, 0, false)

theorem tokAt_injective : Function.Injective tokAt := by
  rintro ⟨c, j⟩ ⟨c', j'⟩ h
  have h1 : c = c' := by
    have := congrArg (fun x : GSem nD τ sig × ℕ × Bool => x.1.1.1) h
    cases j <;> cases j' <;> exact this
  have h2 := congrArg (fun x : GSem nD τ sig × ℕ × Bool => (x.1.2, x.2.2)) h
  subst h1
  cases j with
  | inl b =>
    cases j' with
    | inl b' => rw [show b = b' from congrArg Prod.snd h2]
    | inr q => exact absurd (congrArg Prod.fst h2) (fun e => by cases e)
  | inr q =>
    cases j' with
    | inl b => exact absurd (congrArg Prod.fst h2) (fun e => by cases e)
    | inr q' => rw [osem_injective (show osem q = osem q' from congrArg Prod.fst h2)]

def allToks : Finset (GSem nD τ sig × ℕ × Bool) := Finset.univ.map ⟨tokAt, tokAt_injective⟩

/-- An assertion for every cell of a device: its barrier's and its own semaphores'. -/
theorem cells_split (Φ : Cix → sProp 𝕄) : bigSep Finset.univ Φ = iprop(Φ none ∗ bigSep Finset.univ fun p : Own => Φ (some p)) := by
  rw [bigSep_univ_at Φ none]
  refine congrArg (fun Q : sProp 𝕄 => iprop(Φ none ∗ Q)) ?_
  rw [show (Finset.univ.erase none : Finset Cix) = Finset.univ.map ⟨some, Option.some_injective Own⟩ by decide, BI.bigSep_map]
  rfl

/-- An assertion for every semaphore of its own: the send and the receive semaphores'. -/
theorem own_split (Φ : Own → sProp 𝕄) :
    bigSep Finset.univ Φ = iprop((bigSep Finset.univ fun s : Slot => Φ (false, s)) ∗ bigSep Finset.univ fun s : Slot => Φ (true, s)) := by
  rw [bigSep_univ_prod, bigSep_univ_eq_bigSepL [false, true] (by decide) (by decide), bigSepL_cons_cons, bigSepL_singleton]
  rfl

variable (X : Inp (F := F))

/-! ## What the launch deals, and to whom -/

/-- A device's own tokens; -/
def toks (c : Dev nD) : sProp 𝕄 := bigSep Finset.univ fun j : Tok => dutyTok ER (tokAt (c, j)).1 (tokAt (c, j)).2.1 (tokAt (c, j)).2.2

/-- and those it spends: one at each neighbour's barrier, and two for each transfer it makes. -/
def spend (c : Dev nD) : sProp 𝕄 :=
  iprop(dutyTok ER (barCell (xn c)) 0 false ∗ dutyTok ER (barCell (yn c)) 0 true
    ∗ (bigSep Finset.univ fun s : Slot => dutyTok ER (sendCell c s) 0 false)
    ∗ bigSep Finset.univ fun s : Slot => dutyTok ER (recvCell (peer s c) s) 0 false)

theorem toks_eq (c : Dev nD) :
    (toks c : sProp 𝕄) = iprop((dutyTok ER (barCell c) 0 false ∗ dutyTok ER (barCell c) 0 true)
      ∗ (bigSep Finset.univ fun s : Slot => dutyTok ER (sendCell c s) 0 false)
      ∗ bigSep Finset.univ fun s : Slot => dutyTok ER (recvCell c s) 0 false) := by
  unfold toks
  rw [BI.bigSep_univ_sum, own_split, bigSep_univ_eq_bigSepL [false, true] (by decide) (by decide), bigSepL_cons_cons, bigSepL_singleton]
  rfl

def xEquiv : Dev nD ≃ Dev nD := ⟨xn, xn, xn_xn, xn_xn⟩
def yEquiv : Dev nD ≃ Dev nD := ⟨yn, yn, yn_yn, yn_yn⟩
def peerEquiv : Dev nD × Slot ≃ Dev nD × Slot :=
  ⟨fun p => (peer p.2 p.1, p.2), fun p => (peer p.2 p.1, p.2), fun p => by simp only [peer_peer], fun p => by simp only [peer_peer]⟩

/-- Every token reaches the device that spends it. -/
theorem toks_across : (bigSep Finset.univ fun c : Dev nD => (toks c : sProp 𝕄)) ⊢ bigSep Finset.univ fun c : Dev nD => spend c := by
  unfold spend
  simp only [toks_eq]
  rw [bigSep_sep', bigSep_sep', bigSep_sep', bigSep_sep', bigSep_sep', bigSep_sep',
    bigSep_univ_equiv xEquiv (fun c : Dev nD => (dutyTok ER (barCell c) 0 false : sProp 𝕄)),
    bigSep_univ_equiv yEquiv (fun c : Dev nD => (dutyTok ER (barCell c) 0 true : sProp 𝕄)),
    ← bigSep_univ_prod (fun p : Dev nD × Slot => (dutyTok ER (recvCell p.1 p.2) 0 false : sProp 𝕄)),
    bigSep_univ_equiv peerEquiv (fun p : Dev nD × Slot => (dutyTok ER (recvCell p.1 p.2) 0 false : sProp 𝕄)),
    bigSep_univ_prod]
  iintro ⟨⟨H1, H2⟩, H3, H4⟩
  isplitl [H1]; · iexact H1
  isplitl [H2]; · iexact H2
  isplitl [H3]; · iexact H3
  iexact H4

/-- What the launch makes for device `c`. -/
def minted (c : Dev nD) : sProp 𝕄 :=
  iprop((bigSep Finset.univ fun k : Cix => roundState ER (Rd X) (kcell (c, k)) 0)
    ∗ (bigSep Finset.univ fun k : Cix => iprop(atPos ER (kcell (c, k)) 0 ∅ 0 ∗ reached ER (kcell (c, k)) 0)) ∗ toks c)

/-- What device `c` runs with: the cells' invariants, its positions, the tokens it spends. -/
def dealt (K : Dev nD × Cix → ℕ) (c : Dev nD) : sProp 𝕄 :=
  iprop(records X K ∗ (bigSep Finset.univ fun k : Cix => atPos ER (kcell (c, k)) 0 ∅ 0) ∗ spend c)

theorem fund_cells : BI.own (ER (initOf allCells allToks)) ⊢ (|==> bigSep Finset.univ (minted X) : sProp 𝕄) := by
  have hC (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro H
  imod (Rounds.fund ER (Rd X) allCells allToks) $$ H with ⟨Hst, Hr, Hat, Htok⟩
  imodintro
  ihave Hst := (Entails.of_eq (hC fun g => roundState ER (Rd X) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold minted; simp only [bigSep_sep']
  isplitl [Hst]; · iexact Hst
  isplitl [Hat Hr]
  · isplitl [Hat]; · iexact Hat
    iexact Hr
  iexact Htok

theorem own_zero (c : Dev nD) : (Pipeline.ownSems0 (Ix := Unit) (Name := ℕ) (U := UU) (Lvl := ℕ) (Val := Elt F) (τ := τ) osem c : sProp 𝕄)
    = bigSep Finset.univ fun p : Own => semVal (ownCell c p) 0 := rfl

theorem bar_zero (c : Dev nD) : (unscopedSems0 c : sProp 𝕄) = semVal (barCell c) 0 := by
  unfold unscopedSems0; rw [bigSep_eq_bigSepL_of_eq [SemLoc.reg barS] (by decide) (by decide)]; rfl

theorem cells_zero (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [own_zero, bar_zero, cells_split, show (bigSep Finset.univ fun p : Own => (semVal (kcell (c, some p)) 0 : sProp 𝕄)) = bigSep Finset.univ fun p : Own => semVal (ownCell c p) 0 from
    bigSep_congr fun p _ => by unfold kcell; rw [csem_some]]
  iintro ⟨H1, H2⟩
  isplitl [H2]; · iexact H2
  iexact H1

theorem open_cells (c : Dev nD) :
    iprop(Pipeline.ownSems0 (Ix := Unit) (Name := ℕ) (U := UU) (Lvl := ℕ) (Val := Elt F) (τ := τ) osem c ∗ unscopedSems0 c ∗ minted X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold minted
  iintro ⟨Ho, Hb, Hst, Hat, Htok⟩
  ihave Hv := (cells_zero (F := F) c) $$ [Ho Hb]
  · isplitl [Ho]; · iexact Ho
    iexact Hb
  imod (show iprop((bigSep Finset.univ fun k : Cix => semVal (kcell (c, k)) 0) ∗ bigSep Finset.univ fun k : Cix => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem persist_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem deal :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ fun c => iprop(∃ K, dealt X K c) := by
  rw [bigSep_sep', bigSep_sep', ← bigSep_univ_prod (fun p : Dev nD × Cix => iprop(∃ κ : ℕ, cellInv ER (Rd X) κ (kcell p))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun p : Dev nD × Cix => (reached ER (kcell p) 0 : sProp 𝕄))]
  iintro ⟨HI, ⟨Hat, HR⟩, Htok⟩
  ihave HK := (BI.bigSep_exists_pi Finset.univ (fun (p : Dev nD × Cix) (κ : ℕ) => (cellInv ER (Rd X) κ (kcell p) : sProp 𝕄))) $$ HI
  icases HK with ⟨%K, HI⟩
  ihave Hsp := (toks_across (F := F)) $$ Htok
  iapply (persist_each (R := records X K) (Φ := fun c => iprop((bigSep Finset.univ fun k : Cix => atPos ER (kcell (c, k)) 0 ∅ 0) ∗ spend c)) fun c => by
    unfold dealt
    iintro H
    iexists K
    iexact H)
  isplitl [HI HR]
  · unfold records
    rw [bigSep_sep']
    isplitl [HI]; · iexact HI
    iexact HR
  rw [bigSep_sep']
  isplitl [Hat]; · iexact Hat
  iexact Hsp

/-- All the devices' cells opened, and dealt. -/
theorem open_all :
    (bigSep Finset.univ fun c => iprop(Pipeline.ownSems0 (Ix := Unit) (Name := ℕ) (U := UU) (Lvl := ℕ) (Val := Elt F) (τ := τ) osem c ∗ unscopedSems0 c ∗ minted X c) : sProp 𝕄)
      ⊢ |={Set.univ}=> bigSep Finset.univ fun c => iprop(∃ K, dealt X K c) :=
  ((bigSep_mono fun c _ => open_cells X c).trans (bigSep_fupd _ _)).trans (BI.fupd_mono (deal X))

/-! ## Credit -/

theorem barCell_inj {a b : Dev nD} (h : barCell a = barCell b) : a = b := congrArg (fun g : GSem nD τ sig => g.1.1) h
theorem recvCell_inj {a b : Dev nD} {s t : Slot} (h : recvCell a s = recvCell b t) : a = b ∧ s = t := by
  refine ⟨congrArg (fun g : GSem nD τ sig => g.1.1) h, ?_⟩
  have e := congrArg (fun g : GSem nD τ sig => role g.2) h
  dsimp only at e
  rw [role_rcv, role_rcv] at e
  injection e
theorem recvCell_ne_bar {a b : Dev nD} {s : Slot} : recvCell a s ≠ barCell b := fun h => by
  have := congrArg Prod.snd h; cases this

theorem owedL_bar (d c : Dev nD) : ∀ l : List Slot, owedL d l (barCell c) () = 0
  | [] => rfl
  | s :: l => by
    unfold owedL
    rw [Pi.add_apply, Finsupp.add_apply, owedL_bar d c l, tallyAt_ne_cell (fun h => recvCell_ne_bar h.symm)]
    rfl

theorem owedL_recv (d c : Dev nD) (s : Slot) : ∀ l : List Slot, l.Nodup → owedL d l (recvCell c s) () = if s ∈ l ∧ d = peer s c then N else 0
  | [], _ => by rw [if_neg (fun h => absurd h.1 List.not_mem_nil)]; rfl
  | t :: l, hl => by
    unfold owedL
    rw [Pi.add_apply, Finsupp.add_apply, owedL_recv d c s l (List.nodup_cons.mp hl).2, tallyAt_apply]
    by_cases ht : s = t
    · subst ht
      rw [if_neg (fun h => (List.nodup_cons.mp hl).1 h.1), Nat.zero_add]
      by_cases hd : d = peer s c
      · rw [if_pos ⟨by rw [hd, peer_peer], rfl⟩, if_pos ⟨List.mem_cons_self, hd⟩]
      · rw [if_neg (fun h => hd (by rw [(recvCell_inj h.1).1, peer_peer])), if_neg (fun h => hd h.2)]
    · rw [if_neg (c := recvCell c s = recvCell (peer t d) t ∧ () = ()) (fun h => ht (recvCell_inj h.1).2), Nat.add_zero]
      refine if_congr ⟨fun h => ⟨List.mem_cons_of_mem _ h.1, h.2⟩, fun h => ⟨(List.mem_cons.mp h.1).resolve_left ht, h.2⟩⟩ rfl rfl

theorem owed₀_bar (d c : Dev nD) : owed₀ d (barCell c) () = (if d = yn c then 1 else 0) + (if d = xn c then 1 else 0) := by
  unfold owed₀ owed₁
  rw [Pi.add_apply, Finsupp.add_apply, Pi.add_apply, Finsupp.add_apply, owedL_bar, Nat.zero_add, tallyAt_apply, tallyAt_apply]
  congr 1
  · refine if_congr ⟨fun h => ?_, fun h => ⟨by rw [h, yn_yn], rfl⟩⟩ rfl rfl
    rw [barCell_inj h.1, yn_yn]
  · refine if_congr ⟨fun h => ?_, fun h => ⟨by rw [h, xn_xn], rfl⟩⟩ rfl rfl
    rw [barCell_inj h.1, xn_xn]

theorem ord_all : ∀ s : Slot, s ∈ ord := by decide

theorem owed₀_recv (d c : Dev nD) (s : Slot) : owed₀ d (recvCell c s) () = if d = peer s c then N else 0 := by
  unfold owed₀ owed₁
  rw [Pi.add_apply, Finsupp.add_apply, Pi.add_apply, Finsupp.add_apply, tallyAt_ne_cell recvCell_ne_bar, tallyAt_ne_cell recvCell_ne_bar,
    owedL_recv d c s ord ord_nodup, Finsupp.zero_apply, Nat.add_zero, Nat.add_zero]
  exact if_congr ⟨fun h => h.2, fun h => ⟨ord_all s, h⟩⟩ rfl rfl

theorem credit_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed₀_bar d c, Finset.sum_add_distrib,
    Finset.sum_ite_eq' Finset.univ (yn c) fun _ => 1, Finset.sum_ite_eq' Finset.univ (xn c) fun _ => 1, if_pos (Finset.mem_univ _), if_pos (Finset.mem_univ _)]

theorem credit_recv (c : Dev nD) (s : Slot) :
    tallyOn (recvCell c s) (launchCredit (Pipeline.owing owed₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed₀_recv d c s, Finset.sum_ite_eq' Finset.univ (peer s c) fun _ => N,
    if_pos (Finset.mem_univ _)]

/-- The receive semaphores, as an embedding of the slots. -/
def recvLoc : Slot ↪ SemLoc sig := ⟨fun s => .dma (recvSem s), fun s t h => by
  have e := congrArg role h
  dsimp only at e
  rw [role_rcv, role_rcv] at e
  injection e⟩

theorem credits (c : Dev nD) :
    (Pipeline.launchCred owed₀ c : sProp 𝕄) ⊢ iprop(cred (tallyAt (barCell c) () 2) ∗ bigSep Finset.univ fun s : Slot => cred (tallyAt (recvCell c s) () N)) := by
  unfold Pipeline.launchCred
  rw [bigSep_univ_at _ (SemLoc.reg barS), credit_bar]
  refine sep_mono_right ?_
  have hsub : Finset.univ.map recvLoc ⊆ Finset.univ.erase (SemLoc.reg barS : SemLoc sig) := fun x hx => by
    obtain ⟨s, hs⟩ := Finset.mem_map.mp hx
    exact Finset.mem_erase.mpr ⟨fun h => (fun e : SemLoc.dma (recvSem s) = SemLoc.reg barS => nomatch e) (hs.2.trans h), Finset.mem_univ _⟩
  refine (bigSep_subset hsub).trans ?_
  rw [BI.bigSep_map]
  refine Entails.of_eq (bigSep_congr fun s _ => ?_)
  exact congrArg _ (credit_recv c s)

end Cert.KernelIdeal.Run
-- ==== Proof.Launch.lean ====
/-
The launch on the mesh: what each device's pipeline carries, the body's obligation, and the run of @main — every
execution ends, the argument unchanged, the result array holding `outV`, every semaphore back at zero.
-/
module

public import proofs.«01_k».proof.Proof.Deal
public import proofs.«01_k».proof.Proof.Gen.KernelIdeal.Points
public import Idealize.ShloMosaic.Lib.Pipeline.Launch
public import Idealize.ShloMosaic.Lib.Pipeline.Kit

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The block of device `c`, as the pipeline stages it. -/
def xin : Inp (F := F) := fun c => (win0_0.blk (0 : Fin 1)).view.read (Elt F) (m ((c : Thread nD τ).loc main_arg0))

/-! ## Waiting on the staging semaphores -/

theorem owed₀_pos {c : Dev nD} {g : GSem nD τ sig} {u : Unit} (h : 0 < owed₀ c g u) : ∃ (d : Dev nD) (sm : SemLoc sig), g = ((d : Thread nD τ), sm) ∧ 0 < roleLevel (role sm) := by
  unfold owed₀ owed₁ at h
  rw [Pi.add_apply, Finsupp.add_apply, Pi.add_apply, Finsupp.add_apply, tallyAt_apply, tallyAt_apply] at h
  by_cases hx : g = barCell (xn c) ∧ u = ()
  · exact ⟨xn c, _, hx.1, Nat.one_pos⟩
  by_cases hy : g = barCell (yn c) ∧ u = ()
  · exact ⟨yn c, _, hy.1, Nat.one_pos⟩
  rw [if_neg hx, if_neg hy, Nat.add_zero] at h
  obtain ⟨s, -, e⟩ := owedL_pos h
  exact ⟨peer s c, _, e, by rw [role_rcv]; exact Nat.lt_of_lt_of_le Nat.two_pos (Nat.le_add_right _ _)⟩

theorem mayWait_stage (c : Dev nD) (q : DmaSem sig) (hq : role (SemLoc.dma q) = .other) (O : CellTallies nD τ sig Unit) (hO : O = owed₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨d, sm, rfl, -⟩ := owed₀_pos hg; rw [L_tc]; exact Finset.mem_singleton_self _)
      (fun p hp => by rw [Finset.mem_singleton.mp hp]; show roleLevel (role (SemLoc.dma q)) ≤ 0; rw [hq]; exact Nat.le_refl _)
      (fun g u hg => by obtain ⟨d, sm, rfl, h⟩ := owed₀_pos hg; exact h)
  · rw [MayWait_zero]; iintro -; iempintro

/-! ## What the pipeline carries -/

def ghosts (X : Inp (F := F)) (c : Dev nD) : sProp 𝕄 := iprop(∃ K, dealt X K c)

def start (X : Inp (F := F)) (c : Dev nD) : sProp 𝕄 :=
  iprop(ghosts X c ∗ (cred (tallyAt (barCell c) () 2) ∗ bigSep Finset.univ fun s : Slot => cred (tallyAt (recvCell c s) () N)) ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (X : Inp (F := F)) (c : Dev nD) : sProp 𝕄 := iprop(start X c ∗ scratch c)
def Φ₁ (c : Dev nD) : sProp 𝕄 := iprop((bigSep Finset.univ fun p : Own => semVal (ownCell c p) 0) ∗ semVal (barCell c) 0 ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => outV (xin m) c
  Φ t := match t with
    | ⟨0, _⟩ => Φ₀ (xin m) c
    | ⟨_ + 1, _⟩ => Φ₁ c
  q _ := fullShare
  owed t := match t with
    | ⟨0, _⟩ => owed₀ c
    | ⟨_ + 1, _⟩ => 0

theorem fin_N (t : Fin cfg0.N) : t = t0_0 := fin_N0 t

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (g : b.ty.Contents (Elt F)) :
    (owns (Ix := Unit) (Name := ℕ) (U := UU) (Lvl := ℕ) (c : Thread nD τ) (Memref.whole b) fullShare g : sProp 𝕄)
      = iprop(∃ f : Buf (Elt F) ((c : Thread nD τ).loc b), ⌜f = g⌝ ∗ (((c : Thread nD τ).loc b) ↦{fullShare} f)) := by
  unfold owns; simp only [Memref.view_whole, View.read_whole, View.set_whole]

/-! ## The body -/

theorem junk_a (c : Dev nD) : (junk c aM : sProp 𝕄)
    = iprop(∃ f : Buf (Elt F) ((c : Thread nD τ).loc cc0_scratch0), ((c : Thread nD τ).loc cc0_scratch0) ↦{fullShare} f) := by
  unfold junk; simp only [Memref.view_whole, View.set_whole]
theorem junk_b (c : Dev nD) : (junk c bM : sProp 𝕄)
    = iprop(∃ f : Buf (Elt F) ((c : Thread nD τ).loc cc0_scratch1), ((c : Thread nD τ).loc cc0_scratch1) ↦{fullShare} f) := by
  unfold junk; simp only [Memref.view_whole, View.set_whole]

/-- A device's positions, slot by slot. -/
theorem positions (c : Dev nD) : (bigSep Finset.univ fun k : Cix => (atPos ER (kcell (c, k)) 0 ∅ 0 : sProp 𝕄))
    = iprop(atPos ER (barCell c) 0 ∅ 0 ∗ (bigSep Finset.univ fun s : Slot => atPos ER (sendCell c s) 0 ∅ 0) ∗ bigSep Finset.univ fun s : Slot => atPos ER (recvCell c s) 0 ∅ 0) := by
  rw [cells_split, own_split]
  rfl

/-- What a device starts from is what its body takes. -/
theorem enter (X : Inp (F := F)) (K : Dev nD × Cix → ℕ) (c : Dev nD) :
    iprop(dealt X K c ∗ (cred (tallyAt (barCell c) () 2) ∗ bigSep Finset.univ fun s : Slot => cred (tallyAt (recvCell c s) () N)) ∗ levAts L lv
      ∗ (∃ W, owes (c : Thread nD τ) (owed₀ c) W) ∗ bigSep Finset.univ (slotAny c)) ⊢ entry X K c := by
  unfold dealt spend entry ready landing
  rw [positions, bigSep_sep', bigSep_sep', bigSep_sep']
  iintro ⟨⟨HR, ⟨Hb, Hs, Hr⟩, Hx, Hy, Ht, Hu⟩, ⟨Hc, Hd⟩, HL, HO, HS⟩
  isplitl [HR]; · iexact HR
  isplitl [HL]; · iexact HL
  isplitl [HO]; · iexact HO
  isplitl [Hx]; · iexact Hx
  isplitl [Hy]; · iexact Hy
  isplitl [Hb]; · iexact Hb
  isplitl [Hc]; · iexact Hc
  isplitl [Ht Hu Hs]
  · isplitl [Ht]; · iexact Ht
    isplitl [Hu]; · iexact Hu
    iexact Hs
  isplitl [Hd Hr]
  · isplitl [Hd]; · iexact Hd
    iexact Hr
  iexact HS

theorem closed_nodup : closed.Nodup := by decide
theorem closed_univ : closed.toFinset = Finset.univ := by decide

/-- What it leaves, every cell closed. -/
theorem leave (X : Inp (F := F)) (K : Dev nD × Cix → ℕ) (c : Dev nD) :
    after X K c ⊢ iprop(Φ₁ c ∗ (∃ W, owes (c : Thread nD τ) (0 : CellTallies nD τ sig Unit) W)
      ∗ ((c : Thread nD τ).loc cc0_stg0_0 ↦{fullShare} X c) ∗ ((c : Thread nD τ).loc cc0_stg1_0 ↦{fullShare} outV X c)) := by
  unfold after core Φ₁ scratch
  rw [junk_a, junk_b, chain_eq _ closed closed_nodup, chain_eq _ closed closed_nodup, closed_univ, own_split]
  iintro ⟨⟨-, -, HO, -, -, -, Hs, Hr⟩, Hz, HX, HV, HA, HB, HC⟩
  isplitl [Hs Hr Hz HA HB HC]
  · isplitl [Hs Hr]
    · isplitl [Hs]; · iexact Hs
      iexact Hr
    isplitl [Hz]; · iexact Hz
    isplitl [HA]; · iexact HA
    isplitl [HB]; · iexact HB
    iexact HC
  isplitl [HO]; · iexact HO
  isplitl [HX]; · iexact HX
  iexact HV

/-- A staging buffer held at given contents. -/
abbrev stg (c : Dev nD) (b : Ref sig .tc) (g : b.ty.Contents (Elt F)) : sProp 𝕄 :=
  iprop(∃ f : Buf (Elt F) ((c : Thread nD τ).loc b), ⌜f = g⌝ ∗ (((c : Thread nD τ).loc b) ↦{fullShare} f))

def pointPre (c : Dev nD) : sProp 𝕄 :=
  iprop(Φ₀ (xin m) c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def pointPost (c : Dev nD) : sProp 𝕄 :=
  iprop(Φ₁ c ∗ (dats m ρ 0 c).owesAt () t0_0.succ ∗ stg c cc0_stg0_0 (xin m c) ∗ stg c cc0_stg1_0 (outV (xin m) c))

theorem before_x (c : Dev nD) (d : _) : (dats m ρ 0 c).before (0 : Fin 2) t0_0 d = xin m c := by
  unfold Dat.before; rw [if_pos (fetch0_0 t0_0)]; rfl

theorem owesAt_start (c : Dev nD) : (dats m ρ 0 c).owesAt () t0_0.castSucc ⊢ (∃ W, owes (c : Thread nD τ) (owed₀ c) W : sProp 𝕄) := by
  unfold Dat.owesAt Pipeline.owesWithin
  rw [show (dats m ρ 0 c).owed t0_0.castSucc = owed₀ c from rfl]
  iintro ⟨%W, -, H⟩
  iexists W; iexact H

theorem owesAt_end (c : Dev nD) : (∃ W, owes (c : Thread nD τ) (0 : CellTallies nD τ sig Unit) W : sProp 𝕄) ⊢ (dats m ρ 0 c).owesAt () t0_0.succ := by
  unfold Dat.owesAt Pipeline.owesWithin
  rw [show (dats m ρ 0 c).owed t0_0.succ = 0 from rfl]
  iintro ⟨%W, H⟩
  iexists W
  isplitr; · ipureintro; exact fun _ _ => Or.inl trivial
  iexact H

theorem point_enter (c : Dev nD) : pointPre m ρ c ⊢ iprop(∃ K, before (xin m) K c) := by
  unfold pointPre Φ₀ start ghosts scratch before
  simp only [before_x]
  rw [junk_a, junk_b]
  iintro ⟨⟨⟨⟨%K, HD⟩, HC, HL⟩, HA, HB, ⟨%f, HS⟩⟩, Ho, ⟨%_, %g, %hg, HX⟩, ⟨%_, %g', -, HV⟩⟩
  subst hg
  iexists K
  ihave HS := (land_open c f) $$ HS
  ihave Ho := (owesAt_start m ρ c) $$ Ho
  isplitl [HD HC HL Ho HS]
  · iapply (enter (xin m) K c)
    isplitl [HD]; · iexact HD
    isplitl [HC]; · iexact HC
    isplitl [HL]; · iexact HL
    isplitl [Ho]; · iexact Ho
    iexact HS
  isplitl [HX]; · iexact HX
  isplitl [HV]
  · iexists g'; iexact HV
  isplitl [HA]; · iexact HA
  iexact HB

theorem point_leave (K : Dev nD × Cix → ℕ) (c : Dev nD) : after (xin m) K c ⊢ pointPost m ρ c := by
  unfold pointPost
  iintro H
  ihave H := (leave (xin m) K c) $$ H
  icases H with ⟨HP, HO, HX, HV⟩
  ihave HO := (owesAt_end m ρ c) $$ HO
  isplitl [HP]; · iexact HP
  isplitl [HO]; · iexact HO
  isplitl [HX]
  · iexists _; isplitr; · (ipureintro; rfl)
    iexact HX
  iexists _; isplitr; · (ipureintro; rfl)
  iexact HV

theorem point (c : Dev nD) :
    pointPre m ρ c ⊢ Runs c (cc0_body xM (Memref.isWhole_whole _) oM (Memref.isWhole_whole _) aM (Memref.isWhole_whole _) bM (Memref.isWhole_whole _)
        lM (Memref.isWhole_whole _) cc0_scratch3 cc0_scratch4) (fun _ => pointPost m ρ c) := by
  refine (point_enter m ρ c).trans ?_
  iintro ⟨%K, H⟩
  iapply (body (xin m) K c (Φ := fun _ => pointPost m ρ c)) $$ H
  iintro H
  iapply (point_leave m ρ K c)
  iexact H

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact point m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ghosts (xin m) c)
      ⊢ |={Set.univ}=> iprop(start (xin m) c ∗ emp) := by
  unfold start
  iintro ⟨-, HL, HC, -, HG⟩
  ihave HC := (credits (F := F) c) $$ HC
  imodintro
  isplitl
  · isplitl [HG]; · iexact HG
    isplitl [HC]; · iexact HC
    iexact HL
  · iempintro

theorem phi_first (c : Dev nD) :
    iprop(start (xin m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xin m) c from rfl, scopedRest0_eq]
  unfold Φ₀ scratch
  iintro ⟨HS, -, HR⟩
  isplitl [HS]; · iexact HS
  iexact HR

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_zero, bar_zero]
  unfold Φ₁ scratch
  iintro ⟨HO, HB, HR⟩
  isplitl [HB]; · iexact HB
  isplitl [HO]; · iexact HO
  iexact HR

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
theorem run_arrays : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := minted (xin m)) (G' := ghosts (xin m)) (u₀ := u₀)
    (hu₀ := by
      unfold u₀
      iintro Hu
      ihave H := (ownU_pair _ _) $$ Hu
      icases H with ⟨HP, HX⟩
      imod (fund_cells (xin m)) $$ HX with HG
      imodintro
      isplitl [HP]; · iexact HP
      iexact HG)
    (hglob := open_all (xin m))
    (hA := fun _ _ => rfl) (hpf := fun _ k => k.elim0)
    (X := start (xin m)) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- A window over a whole array at block index 0 reads the array. -/
theorem xin_eq (c : Dev nD) : xin m c = m ((c : Thread nD τ).loc main_arg0) := by
  unfold xin
  exact Memref.read_access_unit_zero (Elt F) main_arg0 (off := fun a => 0 * main_arg0.ty.shape.size a) (funext fun a => Nat.zero_mul _) _ _

theorem final_x (c : Dev nD) : finalA m ρ c (0 : Fin 2) = m ((c : Thread nD τ).loc main_arg0) :=
  (dats (F := F) m ρ 0 c).arrAt_in (0 : Fin 2) rfl _

theorem final_out (c : Dev nD) : finalA m ρ c (1 : Fin 2) = outV (xin m) c := by
  have h : (win0_1.blk (0 : Fin 1)).view.read (Elt F) (finalA m ρ c (1 : Fin 2)) = outV (xin m) c := by
    unfold finalA
    rw [show cfg0.N = (t0_0 : Fin cfg0.N).val + 1 from rfl, (dats m ρ 0 c).arrAt_succ (1 : Fin 2) t0_0, if_pos (flush0_1 t0_0)]
    exact View.read_write_univ _ _
  rw [← h]
  exact (Memref.read_access_unit_zero (Elt F) main_v1 (off := fun a => 0 * main_v1.ty.shape.size a) (funext fun a => Nat.zero_mul _) _ _).symm

/-- Every weakly fair execution of @main ends, each device's argument unchanged, its result `outV` of the devices'
    arguments, every semaphore at zero. -/
theorem run_main : θ_run defs (onTc (τ := τ) (main (F := F))) ⟨m, fun _ => 0, ρ⟩ (fun r =>
    (∀ c : Dev nD, r.2.mem ((c : Thread nD τ).loc main_v1) = outV (fun c : Dev nD => m ((c : Thread nD τ).loc main_arg0)) c)
      ∧ (∀ c : Dev nD, r.2.mem ((c : Thread nD τ).loc main_arg0) = m ((c : Thread nD τ).loc main_arg0)) ∧ r.2.sem = fun _ => 0) :=
  (θ_run defs _ _).mono (fun _ h => ⟨fun c => ((h.1 c (1 : Fin 2)).trans (final_out m ρ c)).trans (by rw [show xin m = fun c : Dev nD => m ((c : Thread nD τ).loc main_arg0) from funext fun c => xin_eq m c]),
    fun c => (h.1 c (0 : Fin 2)).trans (final_x m ρ c), h.2⟩) (run_arrays m ρ)

end Cert.KernelIdeal.Run
-- ==== Proof.Frames.lean ====
/-
The two programs' frames: the run of `Launch`, read at the bits and at the ideal instance.
-/
module

public import proofs.«01_k».proof.Defs
public import proofs.«01_k».proof.Proof.Launch
public import proofs.«01_k».proof.Proof.Gen.Kernel

@[expose] public section

noncomputable section

namespace Cert.KernelIdeal.Run

open Idealize.ShloMosaic Idealize.SL.Sem

/-- The idealized program's frame. -/
theorem frame_ideal : Cert.quiescent_KernelIdeal := fun m g _ =>
  (θ_run Cert.KernelIdeal.defs _ _).mono (fun _ h => h.2) (run_main (F := Ideal) m g)

variable {F : FTy → Type} [FloatOps F]

/-! No rewrite was applied, so the program and its idealization are one text, and one run serves both. -/

theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) (funext fun l => funext fun a => ?_)
  match l, a with
  | ⟨0, _⟩, (t, s) => exact rfl
  | ⟨_ + 1, h⟩, _ => exact absurd h (Nat.not_lt.2 (Nat.le_add_left _ _))

theorem defs_same : Cert.Kernel.defs (F := F) = Cert.KernelIdeal.defs (F := F) := by
  unfold Cert.Kernel.defs Cert.KernelIdeal.defs
  rw [bodies_same]
  rfl

/-- The program's own frame. -/
theorem frame_bits : Cert.quiescent_Kernel := fun m g _ => by
  rw [defs_same]
  exact (θ_run Cert.KernelIdeal.defs _ _).mono (fun _ h => h.2) (run_main (F := Bits) m g)

end Cert.KernelIdeal.Run
-- ==== Proof.Sum.lean ====
/-
The value, ideally: every element of every device's result is the sum of the four devices' blocks there, and so the
reference's sum over the four tiles of the whole array.
-/
module

public import proofs.«01_k».proof.Proof.Launch
public import proofs.«01_k».proof.Proof.Gen.ReferenceIdeal.Run
public import Idealize.ShloMosaic.Lib.Layout
public import Idealize.ShloMosaic.Lib.Pointwise

@[expose] public section

noncomputable section

namespace Cert.KernelIdeal.Run

open Cert.KernelIdeal Cert.KernelIdeal.Gen

open Idealize.ShloMosaic
open Idealize.ShloMosaic.TcCoe

variable (X : Inp (F := Ideal))

/-- Device `e`'s block at `i`, as an extended real. -/
abbrev elt (e : Dev nD) (i : S1024x512.Idx) : EReal := X e i

/-- The four devices' sum at `i`. -/
abbrev allFour (i : S1024x512.Idx) : EReal := elt X 0 i + elt X 1 i + (elt X 2 i + elt X 3 i)

/-! ## The devices of the mesh -/

theorem sum_devices (a : Dev nD → EReal) (e : Dev nD) : a e + a (xn e) + (a (yn e) + a (xn (yn e))) = a 0 + a 1 + (a 2 + a 3) := by
  have h : ∀ e : Dev nD, (e = 0 ∧ xn e = 2 ∧ yn e = 1 ∧ xn (yn e) = 3) ∨ (e = 1 ∧ xn e = 3 ∧ yn e = 0 ∧ xn (yn e) = 2)
      ∨ (e = 2 ∧ xn e = 0 ∧ yn e = 3 ∧ xn (yn e) = 1) ∨ (e = 3 ∧ xn e = 1 ∧ yn e = 2 ∧ xn (yn e) = 0) := by decide
  rcases h e with ⟨h1, h2, h3, h4⟩ | ⟨h1, h2, h3, h4⟩ | ⟨h1, h2, h3, h4⟩ | ⟨h1, h2, h3, h4⟩ <;> rw [h4, h2, h3, h1] <;> ac_rfl

theorem across (e : Dev nD) : yn (xn e) = xn (yn e) := by revert e; decide
theorem xn_row (e : Dev nD) : (xn e).val / 2 = 1 - e.val / 2 := by revert e; decide
theorem yn_row (e : Dev nD) : (yn e).val / 2 = e.val / 2 := by revert e; decide
theorem xn_col (e : Dev nD) : (xn e).val % 2 = e.val % 2 := by revert e; decide
theorem yn_col (e : Dev nD) : (yn e).val % 2 = 1 - e.val % 2 := by revert e; decide
theorem row_le (e : Dev nD) : e.val / 2 ≤ 1 := by revert e; decide
theorem col_le (e : Dev nD) : e.val % 2 ≤ 1 := by revert e; decide

/-! ## Chunks of a block -/

/-- A chunk of a block read at `j` is the block at the row the chunk's offset puts it. -/
theorem chunk_at (f : (cc0_stg0_0 : Ref sig .tc).ty.Contents (Elt Ideal)) {off : Fin 2 → ℕ} {o : ℕ} (hoff : off = ![o, 0])
    (inb : ∀ a, off a + S64x512.size a ≤ S1024x512.size a) (j : S64x512.Idx) (i : S1024x512.Idx)
    (h0 : o + (j 0).val = (i 0).val) (h1 : (j 1).val = (i 1).val) :
    (xM.slice (Rect.unit (s := S1024x512) off S64x512.size inb) (fun _ => rfl)).view.read (Elt Ideal) f j = f i := by
  subst hoff
  show f ((Rect.unit (s := S1024x512) ![o, 0] S64x512.size inb).emb j) = f i
  refine congrArg f (funext fun a => Fin.ext ?_)
  match a with
  | ⟨0, _⟩ => rw [Rect.emb_apply]; show o + 1 * (j 0).val = (i 0).val; omega
  | ⟨1, _⟩ => rw [Rect.emb_apply]; show 0 + 1 * (j 1).val = (i 1).val; omega

variable (e : Dev nD) (k : Fin 4) (j : S64x512.Idx) (i : S1024x512.Idx)

theorem keepA_at (h0 : 256 * (e.val / 2) + 64 * k.val + (j 0).val = (i 0).val) (h1 : (j 1).val = (i 1).val) : keepA X e k j = X e i :=
  chunk_at (X e) (k0_off3_eq e k) (k0_off3_inb e k) j i h0 h1

theorem sendA_at (h0 : 256 * (e.val / 2) + 64 * k.val + (j 0).val = (i 0).val) (h1 : (j 1).val = (i 1).val) : sendA X (xn e) k j = X (xn e) i :=
  chunk_at (X (xn e)) (k0_off1_eq (xn e) k) (k0_off1_inb (xn e) k) j i (by have := row_le e; rw [xn_row]; omega) h1

theorem keepB_at (h0 : 256 * (e.val % 2) + 64 * k.val + 512 + (j 0).val = (i 0).val) (h1 : (j 1).val = (i 1).val) : keepB X e k j = X e i :=
  chunk_at (X e) (k0_off4_eq e k) (k0_off4_inb e k) j i h0 h1

theorem sendB_at (h0 : 256 * (e.val % 2) + 64 * k.val + 512 + (j 0).val = (i 0).val) (h1 : (j 1).val = (i 1).val) : sendB X (yn e) k j = X (yn e) i :=
  chunk_at (X (yn e)) (k0_off2_eq (yn e) k) (k0_off2_inb (yn e) k) j i (by have := col_le e; rw [yn_col]; omega) h1

theorem red1A_at (h0 : 256 * (e.val / 2) + 64 * k.val + (j 0).val = (i 0).val) (h1 : (j 1).val = (i 1).val) :
    red1A X e k j = elt X e i + elt X (xn e) i := by
  show ((keepA X e k j : EReal) + (sendA X (xn e) k j : EReal) : EReal) = _
  rw [keepA_at X e k j i h0 h1, sendA_at X e k j i h0 h1]

theorem red1B_at (h0 : 256 * (e.val % 2) + 64 * k.val + 512 + (j 0).val = (i 0).val) (h1 : (j 1).val = (i 1).val) :
    red1B X e k j = elt X e i + elt X (yn e) i := by
  show ((keepB X e k j : EReal) + (sendB X (yn e) k j : EReal) : EReal) = _
  rw [keepB_at X e k j i h0 h1, sendB_at X e k j i h0 h1]

theorem red2A_at (h0 : 256 * (e.val / 2) + 64 * k.val + (j 0).val = (i 0).val) (h1 : (j 1).val = (i 1).val) :
    red2A X e k j = allFour X i := by
  show ((red1A X e k j : EReal) + (red1A X (yn e) k j : EReal) : EReal) = _
  rw [red1A_at X e k j i h0 h1, red1A_at X (yn e) k j i (by rw [yn_row]; exact h0) h1]
  exact sum_devices (fun d => elt X d i) e

theorem red2B_at (h0 : 256 * (e.val % 2) + 64 * k.val + 512 + (j 0).val = (i 0).val) (h1 : (j 1).val = (i 1).val) :
    red2B X e k j = allFour X i := by
  show ((red1B X e k j : EReal) + (red1B X (xn e) k j : EReal) : EReal) = _
  rw [red1B_at X e k j i h0 h1, red1B_at X (xn e) k j i (by rw [xn_col]; exact h0) h1, across, ]
  refine Eq.trans ?_ (sum_devices (fun d => elt X d i) e)
  show elt X e i + elt X (yn e) i + (elt X (xn e) i + elt X (xn (yn e)) i) = elt X e i + elt X (xn e) i + (elt X (yn e) i + elt X (xn (yn e)) i)
  ac_rfl

/-- Every element of every device's result is the four devices' sum there. -/
theorem outV_at (c : Dev nD) : outV X c i = allFour X i := by
  have hi : (i 0).val < 1024 := (i 0).isLt
  unfold outV
  dsimp only
  by_cases h : (i 0).val < 512
  · rw [if_pos h]
    have he : ∀ e : Dev nD, e.val / 2 = (i 0).val / 256 → red2A X e ⟨(i 0).val % 256 / 64, by omega⟩
        (ix2 ⟨(i 0).val % 64, Nat.mod_lt _ (by decide)⟩ ⟨(i 1).val, (i 1).isLt⟩) = allFour X i := fun e he =>
      red2A_at X e _ _ i (by
        show 256 * (e.val / 2) + 64 * ((i 0).val % 256 / 64) + (i 0).val % 64 = (i 0).val
        rw [he]; omega) rfl
    by_cases hc : (i 0).val / 256 = c.val / 2
    · rw [if_pos hc]; exact he c hc.symm
    · rw [if_neg hc]; exact he (xn c) (by have := row_le c; rw [xn_row]; omega)
  · rw [if_neg h]
    have he : ∀ e : Dev nD, e.val % 2 = ((i 0).val - 512) / 256 → red2B X e ⟨(i 0).val % 256 / 64, by omega⟩
        (ix2 ⟨(i 0).val % 64, Nat.mod_lt _ (by decide)⟩ ⟨(i 1).val, (i 1).isLt⟩) = allFour X i := fun e he =>
      red2B_at X e _ _ i (by
        show 256 * (e.val % 2) + 64 * ((i 0).val % 256 / 64) + 512 + (i 0).val % 64 = (i 0).val
        rw [he]; omega) rfl
    by_cases hc : ((i 0).val - 512) / 256 = c.val % 2
    · rw [if_pos hc]; exact he c hc.symm
    · rw [if_neg hc]; exact he (yn c) (by have := col_le c; rw [yn_col]; omega)

/-! ## The reference -/

abbrev SX : Shape := ⟨2, ![2048, 1024]⟩
abbrev SR : Shape := ⟨4, ![2, 1024, 2, 512]⟩
abbrev SO : Shape := ⟨2, ![1024, 512]⟩

/-- Where the element `i` of tile `(a, b)` is in the whole array. -/
def tileAt (a b : Fin 2) (i : SO.Idx) : SX.Idx :=
  ix2 ⟨1024 * a.val + (i 0).val, by have h : (i 0).val < 1024 := (i 0).isLt; omega⟩ ⟨512 * b.val + (i 1).val, by have h : (i 1).val < 512 := (i 1).isLt; omega⟩

/-- A host sum whose source indices at `i` are the image of `g`. -/
theorem sum_image {s t : Shape} {axes : List (Fin s.rank)} {κ : Type} [Fintype κ] (h : s.ReducesTo axes t) (v : s.Idx → EReal) (i : t.Idx)
    (g : κ → s.Idx) (hg : Function.Injective g) (hp : ∀ x, h.drop x = i ↔ ∃ k, g k = x) : Ideal.hostReduceAdd h v 0 i = ∑ k, v (g k) := by
  unfold Ideal.hostReduceAdd
  rw [zero_add]
  exact Finset.sum_filter_eq_sum_of_fiber _ g hg hp v

/-- The source indices of a sum over axes 0 and 2. -/
theorem sum_axes (h : SR.ReducesTo [0, 2] SO) (v : SR.Idx → EReal) (i : SO.Idx) :
    Ideal.hostReduceAdd h v 0 i = ∑ a : Fin 2, ∑ b : Fin 2, v (ix4 a (i 0) b (i 1)) := by
  rw [← Fintype.sum_prod_type' (f := fun a b => v (ix4 a (i 0) b (i 1)))]
  refine sum_image h v i (fun p : Fin 2 × Fin 2 => ix4 p.1 (i 0) p.2 (i 1)) ?_ ?_
  · intro p q e
    exact Prod.ext (congrFun e 0) (congrFun e 2)
  · intro x
    constructor
    · intro hx
      refine ⟨(x 0, x 2), ?_⟩
      rw [← hx]
      funext b
      match b with
      | ⟨0, _⟩ => rfl
      | ⟨1, _⟩ => rfl
      | ⟨2, _⟩ => rfl
      | ⟨3, _⟩ => rfl
    · rintro ⟨p, rfl⟩
      funext b
      apply Fin.ext
      match b with
      | ⟨0, _⟩ => rfl
      | ⟨1, _⟩ => rfl

/-- The reshape splits rows and columns. -/
theorem split_at (f : SX.Idx → EReal) (h : SX.ShapeCasts SR) (a b : Fin 2) (i : SO.Idx) : shapeCast SR f h (ix4 a (i 0) b (i 1)) = f (tileAt a b i) := by
  refine congrArg f (Shape.reshapeEquiv_eq_of_rowMajor _ ?_)
  rw [Shape.rowMajor_val_two, Shape.rowMajor_val_four]
  show (1024 * a.val + (i 0).val) * 1024 + (512 * b.val + (i 1).val) = ((a.val * 1024 + (i 0).val) * 2 + b.val) * 512 + (i 1).val
  ring

/-- The reference's result, element by element. -/
theorem reference_at (f : SX.Idx → EReal) (h : SX.ShapeCasts SR) (h' : SR.ReducesTo [0, 2] SO) (hu : 0 < (⟨0, ![]⟩ : Shape).numel) (i : SO.Idx) :
    Host.reduceAdd (F := Ideal) (φ := .f32) (shapeCast SR f h) (constant ⟨0, ![]⟩ .f32 0x00000000#32) h' hu i
      = (f (tileAt 0 0 i) + f (tileAt 0 1 i) + (f (tileAt 1 0 i) + f (tileAt 1 1 i)) : EReal) := by
  rw [Host.reduceAdd_apply]
  show Ideal.hostReduceAdd h' (shapeCast SR f h) (Ideal.ofBits .f32 0#32) i = _
  rw [show Ideal.ofBits .f32 0#32 = 0 from Ideal.ofBits_zero .f32, sum_axes h' (shapeCast SR f h) i, Fin.sum_univ_two, Fin.sum_univ_two, Fin.sum_univ_two]
  simp only [split_at]

/-- Device `c`'s block of the whole array is its tile. -/
theorem block_at (f : SX.Idx → EReal) (c : Dev nD) (i : SO.Idx) :
    Layout.blockN ⟨2, ![1024, 512]⟩ ⟨2, ![2048, 1024]⟩ (Layout.meshBlock [2, 2] ![[0], [1]] c) f (by decide) i
      = f (tileAt ⟨c.val / 2, by have h : c.val < 4 := c.isLt; omega⟩ ⟨c.val % 2, by omega⟩ i) := by
  rw [Layout.blockN_apply]
  refine congrArg f (funext fun b => Fin.ext ?_)
  rw [Layout.TilesN.idx_val]
  revert c
  match b with
  | ⟨0, _⟩ =>
    intro c
    show Layout.meshLin [2, 2] c.val [0] * 1024 + (i 0).val = 1024 * (c.val / 2) + (i 0).val
    rw [show Layout.meshLin [2, 2] c.val [0] = c.val / 2 by revert c; decide]; omega
  | ⟨1, _⟩ =>
    intro c
    show Layout.meshLin [2, 2] c.val [1] * 512 + (i 1).val = 512 * (c.val % 2) + (i 1).val
    rw [show Layout.meshLin [2, 2] c.val [1] = c.val % 2 by revert c; decide]; omega

end Cert.KernelIdeal.Run
-- ==== Proof.lean ====
/-
The proof of `Cert.Claim` (proofs.«01_k».proof.Defs): quiescent_Kernel ∧ quiescent_KernelIdeal ∧ quiescent_ReferenceIdeal ∧
preserves_Kernel_KernelIdeal ∧ algebraic_KernelIdeal_ReferenceIdeal.

The kernel's run is Proof/Launch.lean's `run_main`, its two frames Proof/Frames.lean, its value and the reference's Proof/Sum.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Sum
public import Idealize.ShloMosaic.Lib.Quiescent

@[expose] public section

noncomputable section

namespace Cert.Proof

open Idealize.ShloMosaic Idealize.SL.Sem Cert.Kernel

/-- The reference has no semaphore, so its run leaves none raised. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Every device ends with the reference's result: the four tiles' sum. -/
theorem algebraic : Cert.algebraic_KernelIdeal_ReferenceIdeal := fun m g m' g' _ hm => by
  refine ⟨_, (θ_run Cert.KernelIdeal.defs _ _).mono (fun r h c => ⟨(h.1 c).trans ?_, h.2.1 c⟩) (Cert.KernelIdeal.Run.run_main (F := Ideal) m g),
    (θ_run Cert.ReferenceIdeal.defs _ _).mono (fun r h => h 0) (Cert.ReferenceIdeal.Value.run (F := Ideal) m' g')⟩
  funext i
  refine (Cert.KernelIdeal.Run.outV_at _ i c).trans (Eq.trans ?_ (Cert.KernelIdeal.Run.reference_at _ _ _ _ i).symm)
  have h : ∀ d : Dev Cert.KernelIdeal.nD, _ := fun d => (congrFun (hm d) i).trans (Cert.KernelIdeal.Run.block_at _ d i)
  exact congrArg₂ (· + ·) (congrArg₂ (· + ·) (h 0) (h 1)) (congrArg₂ (· + ·) (h 2) (h 3))

theorem claim : Cert.Claim := ⟨Cert.Kernel.Gen.facts, Cert.KernelIdeal.Gen.facts, Cert.ReferenceIdeal.Gen.facts,
  Cert.KernelIdeal.Run.frame_bits, Cert.KernelIdeal.Run.frame_ideal, frame_reference, trivial, algebraic⟩

end Cert.Proof

end
